-- ==== Defs.lean ====
def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Dxn (m : (ℓ : Loc Cert.Dxn.nD Cert.Dxn.τ Cert.Dxn.sig) → Buf (Elt Bits) ℓ) : Prop :=
  True

def Pre_DxnIdeal (m : (ℓ : Loc Cert.DxnIdeal.nD Cert.DxnIdeal.τ Cert.DxnIdeal.sig) → Buf (Elt Ideal) ℓ) : Prop :=
  True

def Pre_DxnReferenceIdeal (m : (ℓ : Loc Cert.DxnReferenceIdeal.nD Cert.DxnReferenceIdeal.τ Cert.DxnReferenceIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdReferenceIdeal (m : (ℓ : Loc Cert.BwdReferenceIdeal.nD Cert.BwdReferenceIdeal.τ Cert.BwdReferenceIdeal.sig) → Buf (Elt Ideal) ℓ) : Prop :=
  True

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9)
      ∧ r.2.mem ((c.tc : Thread Cert.OutReferenceIdeal.nD Cert.OutReferenceIdeal.τ).loc Cert.OutReferenceIdeal.main_arg10) = m ((c.tc : Thread Cert.OutReferenceIdeal.nD Cert.OutReferenceIdeal.τ).loc Cert.OutReferenceIdeal.main_arg10))
      ∧ r.2.sem = fun _ => 0)

def quiescent_Dxn [hDxn : Cert.Dxn.Facts] : Prop :=
  ∀ (m : (ℓ : Loc Cert.Dxn.nD Cert.Dxn.τ Cert.Dxn.sig) → Buf (Elt Bits) ℓ) (g : Dev Cert.Dxn.nD → PrngReg), Pre_Dxn m →
    θ_run (Cert.Dxn.defs (F := Bits)) (onTc (τ := Cert.Dxn.τ) (Cert.Dxn.main (F := Bits))) ⟨m, fun _ => 0, g⟩ (fun r => (∀ c : Dev Cert.Dxn.nD,
      r.2.mem ((c.tc : Thread Cert.Dxn.nD Cert.Dxn.τ).loc Cert.Dxn.main_arg0) = m ((c.tc : Thread Cert.Dxn.nD Cert.Dxn.τ).loc Cert.Dxn.main_arg0)
      ∧ r.2.mem ((c.tc : Thread Cert.Dxn.nD Cert.Dxn.τ).loc Cert.Dxn.main_arg1) = m ((c.tc : Thread Cert.Dxn.nD Cert.Dxn.τ).loc Cert.Dxn.main_arg1)
      ∧ r.2.mem ((c.tc : Thread Cert.Dxn.nD Cert.Dxn.τ).loc Cert.Dxn.main_arg2) = m ((c.tc : Thread Cert.Dxn.nD Cert.Dxn.τ).loc Cert.Dxn.main_arg2)
      ∧ r.2.mem ((c.tc : Thread Cert.Dxn.nD Cert.Dxn.τ).loc Cert.Dxn.main_arg3) = m ((c.tc : Thread Cert.Dxn.nD Cert.Dxn.τ).loc Cert.Dxn.main_arg3)
      ∧ r.2.mem ((c.tc : Thread Cert.Dxn.nD Cert.Dxn.τ).loc Cert.Dxn.main_arg4) = m ((c.tc : Thread Cert.Dxn.nD Cert.Dxn.τ).loc Cert.Dxn.main_arg4)
      ∧ r.2.mem ((c.tc : Thread Cert.Dxn.nD Cert.Dxn.τ).loc Cert.Dxn.main_arg5) = m ((c.tc : Thread Cert.Dxn.nD Cert.Dxn.τ).loc Cert.Dxn.main_arg5)
      ∧ r.2.mem ((c.tc : Thread Cert.Dxn.nD Cert.Dxn.τ).loc Cert.Dxn.main_arg6) = m ((c.tc : Thread Cert.Dxn.nD Cert.Dxn.τ).loc Cert.Dxn.main_arg6)
      ∧ r.2.mem ((c.tc : Thread Cert.Dxn.nD Cert.Dxn.τ).loc Cert.Dxn.main_arg7) = m ((c.tc : Thread Cert.Dxn.nD Cert.Dxn.τ).loc Cert.Dxn.main_arg7)
      ∧ r.2.mem ((c.tc : Thread Cert.Dxn.nD Cert.Dxn.τ).loc Cert.Dxn.main_arg8) = m ((c.tc : Thread Cert.Dxn.nD Cert.Dxn.τ).loc Cert.Dxn.main_arg8)
      ∧ r.2.mem ((c.tc : Thread Cert.Dxn.nD Cert.Dxn.τ).loc Cert.Dxn.main_arg9) = m ((c.tc : Thread Cert.Dxn.nD Cert.Dxn.τ).loc Cert.Dxn.main_arg9)
      ∧ r.2.mem ((c.tc : Thread Cert.Dxn.nD Cert.Dxn.τ).loc Cert.Dxn.main_arg10) = m ((c.tc : Thread Cert.Dxn.nD Cert.Dxn.τ).loc Cert.Dxn.main_arg10))
      ∧ r.2.sem = fun _ => 0)

def quiescent_DxnIdeal [hDxnIdeal : Cert.DxnIdeal.Facts] : Prop :=
  ∀ (m : (ℓ : Loc Cert.DxnIdeal.nD Cert.DxnIdeal.τ Cert.DxnIdeal.sig) → Buf (Elt Ideal) ℓ) (g : Dev Cert.DxnIdeal.nD → PrngReg), Pre_DxnIdeal m →
    θ_run (Cert.DxnIdeal.defs (F := Ideal)) (onTc (τ := Cert.DxnIdeal.τ) (Cert.DxnIdeal.main (F := Ideal))) ⟨m, fun _ => 0, g⟩ (fun r => (∀ c : Dev Cert.DxnIdeal.nD,
      r.2.mem ((c.tc : Thread Cert.DxnIdeal.nD Cert.DxnIdeal.τ).loc Cert.DxnIdeal.main_arg0) = m ((c.tc : Thread Cert.DxnIdeal.nD Cert.DxnIdeal.τ).loc Cert.DxnIdeal.main_arg0)
      ∧ r.2.mem ((c.tc : Thread Cert.DxnIdeal.nD Cert.DxnIdeal.τ).loc Cert.DxnIdeal.main_arg1) = m ((c.tc : Thread Cert.DxnIdeal.nD Cert.DxnIdeal.τ).loc Cert.DxnIdeal.main_arg1)
      ∧ r.2.mem ((c.tc : Thread Cert.DxnIdeal.nD Cert.DxnIdeal.τ).loc Cert.DxnIdeal.main_arg2) = m ((c.tc : Thread Cert.DxnIdeal.nD Cert.DxnIdeal.τ).loc Cert.DxnIdeal.main_arg2)
      ∧ r.2.mem ((c.tc : Thread Cert.DxnIdeal.nD Cert.DxnIdeal.τ).loc Cert.DxnIdeal.main_arg3) = m ((c.tc : Thread Cert.DxnIdeal.nD Cert.DxnIdeal.τ).loc Cert.DxnIdeal.main_arg3)
      ∧ r.2.mem ((c.tc : Thread Cert.DxnIdeal.nD Cert.DxnIdeal.τ).loc Cert.DxnIdeal.main_arg4) = m ((c.tc : Thread Cert.DxnIdeal.nD Cert.DxnIdeal.τ).loc Cert.DxnIdeal.main_arg4)
      ∧ r.2.mem ((c.tc : Thread Cert.DxnIdeal.nD Cert.DxnIdeal.τ).loc Cert.DxnIdeal.main_arg5) = m ((c.tc : Thread Cert.DxnIdeal.nD Cert.DxnIdeal.τ).loc Cert.DxnIdeal.main_arg5)
      ∧ r.2.mem ((c.tc : Thread Cert.DxnIdeal.nD Cert.DxnIdeal.τ).loc Cert.DxnIdeal.main_arg6) = m ((c.tc : Thread Cert.DxnIdeal.nD Cert.DxnIdeal.τ).loc Cert.DxnIdeal.main_arg6)
      ∧ r.2.mem ((c.tc : Thread Cert.DxnIdeal.nD Cert.DxnIdeal.τ).loc Cert.DxnIdeal.main_arg7) = m ((c.tc : Thread Cert.DxnIdeal.nD Cert.DxnIdeal.τ).loc Cert.DxnIdeal.main_arg7)
      ∧ r.2.mem ((c.tc : Thread Cert.DxnIdeal.nD Cert.DxnIdeal.τ).loc Cert.DxnIdeal.main_arg8) = m ((c.tc : Thread Cert.DxnIdeal.nD Cert.DxnIdeal.τ).loc Cert.DxnIdeal.main_arg8)
      ∧ r.2.mem ((c.tc : Thread Cert.DxnIdeal.nD Cert.DxnIdeal.τ).loc Cert.DxnIdeal.main_arg9) = m ((c.tc : Thread Cert.DxnIdeal.nD Cert.DxnIdeal.τ).loc Cert.DxnIdeal.main_arg9)
      ∧ r.2.mem ((c.tc : Thread Cert.DxnIdeal.nD Cert.DxnIdeal.τ).loc Cert.DxnIdeal.main_arg10) = m ((c.tc : Thread Cert.DxnIdeal.nD Cert.DxnIdeal.τ).loc Cert.DxnIdeal.main_arg10))
      ∧ r.2.sem = fun _ => 0)

def quiescent_DxnReferenceIdeal [hDxnReferenceIdeal : Cert.DxnReferenceIdeal.Facts] : Prop :=
  ∀ (m : (ℓ : Loc Cert.DxnReferenceIdeal.nD Cert.DxnReferenceIdeal.τ Cert.DxnReferenceIdeal.sig) → Buf (Elt Ideal) ℓ) (g : Dev Cert.DxnReferenceIdeal.nD → PrngReg), Pre_DxnReferenceIdeal m →
    θ_run (Cert.DxnReferenceIdeal.defs (F := Ideal)) (onTc (τ := Cert.DxnReferenceIdeal.τ) (Cert.DxnReferenceIdeal.main (F := Ideal))) ⟨m, fun _ => 0, g⟩ (fun r => (∀ c : Dev Cert.DxnReferenceIdeal.nD,
      r.2.mem ((c.tc : Thread Cert.DxnReferenceIdeal.nD Cert.DxnReferenceIdeal.τ).loc Cert.DxnReferenceIdeal.main_arg0) = m ((c.tc : Thread Cert.DxnReferenceIdeal.nD Cert.DxnReferenceIdeal.τ).loc Cert.DxnReferenceIdeal.main_arg0)
      ∧ r.2.mem ((c.tc : Thread Cert.DxnReferenceIdeal.nD Cert.DxnReferenceIdeal.τ).loc Cert.DxnReferenceIdeal.main_arg1) = m ((c.tc : Thread Cert.DxnReferenceIdeal.nD Cert.DxnReferenceIdeal.τ).loc Cert.DxnReferenceIdeal.main_arg1)
      ∧ r.2.mem ((c.tc : Thread Cert.DxnReferenceIdeal.nD Cert.DxnReferenceIdeal.τ).loc Cert.DxnReferenceIdeal.main_arg2) = m ((c.tc : Thread Cert.DxnReferenceIdeal.nD Cert.DxnReferenceIdeal.τ).loc Cert.DxnReferenceIdeal.main_arg2)
      ∧ r.2.mem ((c.tc : Thread Cert.DxnReferenceIdeal.nD Cert.DxnReferenceIdeal.τ).loc Cert.DxnReferenceIdeal.main_arg3) = m ((c.tc : Thread Cert.DxnReferenceIdeal.nD Cert.DxnReferenceIdeal.τ).loc Cert.DxnReferenceIdeal.main_arg3)
      ∧ r.2.mem ((c.tc : Thread Cert.DxnReferenceIdeal.nD Cert.DxnReferenceIdeal.τ).loc Cert.DxnReferenceIdeal.main_arg4) = m ((c.tc : Thread Cert.DxnReferenceIdeal.nD Cert.DxnReferenceIdeal.τ).loc Cert.DxnReferenceIdeal.main_arg4)
      ∧ r.2.mem ((c.tc : Thread Cert.DxnReferenceIdeal.nD Cert.DxnReferenceIdeal.τ).loc Cert.DxnReferenceIdeal.main_arg5) = m ((c.tc : Thread Cert.DxnReferenceIdeal.nD Cert.DxnReferenceIdeal.τ).loc Cert.DxnReferenceIdeal.main_arg5)
      ∧ r.2.mem ((c.tc : Thread Cert.DxnReferenceIdeal.nD Cert.DxnReferenceIdeal.τ).loc Cert.DxnReferenceIdeal.main_arg6) = m ((c.tc : Thread Cert.DxnReferenceIdeal.nD Cert.DxnReferenceIdeal.τ).loc Cert.DxnReferenceIdeal.main_arg6)
      ∧ r.2.mem ((c.tc : Thread Cert.DxnReferenceIdeal.nD Cert.DxnReferenceIdeal.τ).loc Cert.DxnReferenceIdeal.main_arg7) = m ((c.tc : Thread Cert.DxnReferenceIdeal.nD Cert.DxnReferenceIdeal.τ).loc Cert.DxnReferenceIdeal.main_arg7)
      ∧ r.2.mem ((c.tc : Thread Cert.DxnReferenceIdeal.nD Cert.DxnReferenceIdeal.τ).loc Cert.DxnReferenceIdeal.main_arg8) = m ((c.tc : Thread Cert.DxnReferenceIdeal.nD Cert.DxnReferenceIdeal.τ).loc Cert.DxnReferenceIdeal.main_arg8)
      ∧ r.2.mem ((c.tc : Thread Cert.DxnReferenceIdeal.nD Cert.DxnReferenceIdeal.τ).loc Cert.DxnReferenceIdeal.main_arg9) = m ((c.tc : Thread Cert.DxnReferenceIdeal.nD Cert.DxnReferenceIdeal.τ).loc Cert.DxnReferenceIdeal.main_arg9)
      ∧ r.2.mem ((c.tc : Thread Cert.DxnReferenceIdeal.nD Cert.DxnReferenceIdeal.τ).loc Cert.DxnReferenceIdeal.main_arg10) = m ((c.tc : Thread Cert.DxnReferenceIdeal.nD Cert.DxnReferenceIdeal.τ).loc Cert.DxnReferenceIdeal.main_arg10))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2)
      ∧ r.2.mem ((c.tc : Thread Cert.RowsReferenceIdeal.nD Cert.RowsReferenceIdeal.τ).loc Cert.RowsReferenceIdeal.main_arg3) = m ((c.tc : Thread Cert.RowsReferenceIdeal.nD Cert.RowsReferenceIdeal.τ).loc Cert.RowsReferenceIdeal.main_arg3)
      ∧ r.2.mem ((c.tc : Thread Cert.RowsReferenceIdeal.nD Cert.RowsReferenceIdeal.τ).loc Cert.RowsReferenceIdeal.main_arg4) = m ((c.tc : Thread Cert.RowsReferenceIdeal.nD Cert.RowsReferenceIdeal.τ).loc Cert.RowsReferenceIdeal.main_arg4))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6)
      ∧ r.2.mem ((c.tc : Thread Cert.Bwd.nD Cert.Bwd.τ).loc Cert.Bwd.main_arg7) = m ((c.tc : Thread Cert.Bwd.nD Cert.Bwd.τ).loc Cert.Bwd.main_arg7)
      ∧ r.2.mem ((c.tc : Thread Cert.Bwd.nD Cert.Bwd.τ).loc Cert.Bwd.main_arg8) = m ((c.tc : Thread Cert.Bwd.nD Cert.Bwd.τ).loc Cert.Bwd.main_arg8)
      ∧ r.2.mem ((c.tc : Thread Cert.Bwd.nD Cert.Bwd.τ).loc Cert.Bwd.main_arg9) = m ((c.tc : Thread Cert.Bwd.nD Cert.Bwd.τ).loc Cert.Bwd.main_arg9)
      ∧ r.2.mem ((c.tc : Thread Cert.Bwd.nD Cert.Bwd.τ).loc Cert.Bwd.main_arg10) = m ((c.tc : Thread Cert.Bwd.nD Cert.Bwd.τ).loc Cert.Bwd.main_arg10))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
      ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
      ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9)
      ∧ r.2.mem ((c.tc : Thread Cert.BwdIdeal.nD Cert.BwdIdeal.τ).loc Cert.BwdIdeal.main_arg10) = m ((c.tc : Thread Cert.BwdIdeal.nD Cert.BwdIdeal.τ).loc Cert.BwdIdeal.main_arg10))
      ∧ r.2.sem = fun _ => 0)

def quiescent_BwdReferenceIdeal [hBwdReferenceIdeal : Cert.BwdReferenceIdeal.Facts] : Prop :=
  ∀ (m : (ℓ : Loc Cert.BwdReferenceIdeal.nD Cert.BwdReferenceIdeal.τ Cert.BwdReferenceIdeal.sig) → Buf (Elt Ideal) ℓ) (g : Dev Cert.BwdReferenceIdeal.nD → PrngReg), Pre_BwdReferenceIdeal m →
    θ_run (Cert.BwdReferenceIdeal.defs (F := Ideal)) (onTc (τ := Cert.BwdReferenceIdeal.τ) (Cert.BwdReferenceIdeal.main (F := Ideal))) ⟨m, fun _ => 0, g⟩ (fun r => (∀ c : Dev Cert.BwdReferenceIdeal.nD,
      r.2.mem ((c.tc : Thread Cert.BwdReferenceIdeal.nD Cert.BwdReferenceIdeal.τ).loc Cert.BwdReferenceIdeal.main_arg0) = m ((c.tc : Thread Cert.BwdReferenceIdeal.nD Cert.BwdReferenceIdeal.τ).loc Cert.BwdReferenceIdeal.main_arg0)
      ∧ r.2.mem ((c.tc : Thread Cert.BwdReferenceIdeal.nD Cert.BwdReferenceIdeal.τ).loc Cert.BwdReferenceIdeal.main_arg1) = m ((c.tc : Thread Cert.BwdReferenceIdeal.nD Cert.BwdReferenceIdeal.τ).loc Cert.BwdReferenceIdeal.main_arg1)
      ∧ r.2.mem ((c.tc : Thread Cert.BwdReferenceIdeal.nD Cert.BwdReferenceIdeal.τ).loc Cert.BwdReferenceIdeal.main_arg2) = m ((c.tc : Thread Cert.BwdReferenceIdeal.nD Cert.BwdReferenceIdeal.τ).loc Cert.BwdReferenceIdeal.main_arg2)
      ∧ r.2.mem ((c.tc : Thread Cert.BwdReferenceIdeal.nD Cert.BwdReferenceIdeal.τ).loc Cert.BwdReferenceIdeal.main_arg3) = m ((c.tc : Thread Cert.BwdReferenceIdeal.nD Cert.BwdReferenceIdeal.τ).loc Cert.BwdReferenceIdeal.main_arg3)
      ∧ r.2.mem ((c.tc : Thread Cert.BwdReferenceIdeal.nD Cert.BwdReferenceIdeal.τ).loc Cert.BwdReferenceIdeal.main_arg4) = m ((c.tc : Thread Cert.BwdReferenceIdeal.nD Cert.BwdReferenceIdeal.τ).loc Cert.BwdReferenceIdeal.main_arg4)
      ∧ r.2.mem ((c.tc : Thread Cert.BwdReferenceIdeal.nD Cert.BwdReferenceIdeal.τ).loc Cert.BwdReferenceIdeal.main_arg5) = m ((c.tc : Thread Cert.BwdReferenceIdeal.nD Cert.BwdReferenceIdeal.τ).loc Cert.BwdReferenceIdeal.main_arg5)
      ∧ r.2.mem ((c.tc : Thread Cert.BwdReferenceIdeal.nD Cert.BwdReferenceIdeal.τ).loc Cert.BwdReferenceIdeal.main_arg6) = m ((c.tc : Thread Cert.BwdReferenceIdeal.nD Cert.BwdReferenceIdeal.τ).loc Cert.BwdReferenceIdeal.main_arg6)
      ∧ r.2.mem ((c.tc : Thread Cert.BwdReferenceIdeal.nD Cert.BwdReferenceIdeal.τ).loc Cert.BwdReferenceIdeal.main_arg7) = m ((c.tc : Thread Cert.BwdReferenceIdeal.nD Cert.BwdReferenceIdeal.τ).loc Cert.BwdReferenceIdeal.main_arg7)
      ∧ r.2.mem ((c.tc : Thread Cert.BwdReferenceIdeal.nD Cert.BwdReferenceIdeal.τ).loc Cert.BwdReferenceIdeal.main_arg8) = m ((c.tc : Thread Cert.BwdReferenceIdeal.nD Cert.BwdReferenceIdeal.τ).loc Cert.BwdReferenceIdeal.main_arg8)
      ∧ r.2.mem ((c.tc : Thread Cert.BwdReferenceIdeal.nD Cert.BwdReferenceIdeal.τ).loc Cert.BwdReferenceIdeal.main_arg9) = m ((c.tc : Thread Cert.BwdReferenceIdeal.nD Cert.BwdReferenceIdeal.τ).loc Cert.BwdReferenceIdeal.main_arg9)
      ∧ r.2.mem ((c.tc : Thread Cert.BwdReferenceIdeal.nD Cert.BwdReferenceIdeal.τ).loc Cert.BwdReferenceIdeal.main_arg10) = m ((c.tc : Thread Cert.BwdReferenceIdeal.nD Cert.BwdReferenceIdeal.τ).loc Cert.BwdReferenceIdeal.main_arg10))
      ∧ r.2.sem = fun _ => 0)

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)
      ∧ m' ((c.tc : Thread Cert.OutReferenceIdeal.nD Cert.OutReferenceIdeal.τ).loc Cert.OutReferenceIdeal.main_arg7) = m ((c.tc : Thread Cert.OutIdeal.nD Cert.OutIdeal.τ).loc Cert.OutIdeal.main_arg7)
      ∧ m' ((c.tc : Thread Cert.OutReferenceIdeal.nD Cert.OutReferenceIdeal.τ).loc Cert.OutReferenceIdeal.main_arg8) = m ((c.tc : Thread Cert.OutIdeal.nD Cert.OutIdeal.τ).loc Cert.OutIdeal.main_arg8)
      ∧ m' ((c.tc : Thread Cert.OutReferenceIdeal.nD Cert.OutReferenceIdeal.τ).loc Cert.OutReferenceIdeal.main_arg9) = m ((c.tc : Thread Cert.OutIdeal.nD Cert.OutIdeal.τ).loc Cert.OutIdeal.main_arg9)
      ∧ m' ((c.tc : Thread Cert.OutReferenceIdeal.nD Cert.OutReferenceIdeal.τ).loc Cert.OutReferenceIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)) (v2 : (c : Dev Cert.OutIdeal.nD) → Buf (Elt Ideal) ((c.tc : Thread Cert.OutIdeal.nD Cert.OutIdeal.τ).loc Cert.OutIdeal.main_v4_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_v4_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0_0) = v0 c
          ∧ r.2.mem ((c.tc : Thread Cert.OutReferenceIdeal.nD Cert.OutReferenceIdeal.τ).loc Cert.OutReferenceIdeal.main_v0_1) = v1 c
          ∧ r.2.mem ((c.tc : Thread Cert.OutReferenceIdeal.nD Cert.OutReferenceIdeal.τ).loc Cert.OutReferenceIdeal.main_v0_2) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9)
          ∧ r.2.mem ((c.tc : Thread Cert.OutReferenceIdeal.nD Cert.OutReferenceIdeal.τ).loc Cert.OutReferenceIdeal.main_arg10) = m' ((c.tc : Thread Cert.OutReferenceIdeal.nD Cert.OutReferenceIdeal.τ).loc Cert.OutReferenceIdeal.main_arg10))

def preserves_Dxn_DxnIdeal : Prop :=
  True

def algebraic_DxnIdeal_DxnReferenceIdeal [hDxnIdeal : Cert.DxnIdeal.Facts] [hDxnReferenceIdeal : Cert.DxnReferenceIdeal.Facts] : Prop :=
  ∀ (m : (ℓ : Loc Cert.DxnIdeal.nD Cert.DxnIdeal.τ Cert.DxnIdeal.sig) → Buf (Elt Ideal) ℓ) (g : Dev Cert.DxnIdeal.nD → PrngReg)
    (m' : (ℓ : Loc Cert.DxnReferenceIdeal.nD Cert.DxnReferenceIdeal.τ Cert.DxnReferenceIdeal.sig) → Buf (Elt Ideal) ℓ) (g' : Dev Cert.DxnReferenceIdeal.nD → PrngReg), Pre_DxnIdeal m →
    (∀ c : Dev Cert.DxnIdeal.nD,
      m' ((c.tc : Thread Cert.DxnReferenceIdeal.nD Cert.DxnReferenceIdeal.τ).loc Cert.DxnReferenceIdeal.main_arg0) = m ((c.tc : Thread Cert.DxnIdeal.nD Cert.DxnIdeal.τ).loc Cert.DxnIdeal.main_arg0)
      ∧ m' ((c.tc : Thread Cert.DxnReferenceIdeal.nD Cert.DxnReferenceIdeal.τ).loc Cert.DxnReferenceIdeal.main_arg1) = m ((c.tc : Thread Cert.DxnIdeal.nD Cert.DxnIdeal.τ).loc Cert.DxnIdeal.main_arg1)
      ∧ m' ((c.tc : Thread Cert.DxnReferenceIdeal.nD Cert.DxnReferenceIdeal.τ).loc Cert.DxnReferenceIdeal.main_arg2) = m ((c.tc : Thread Cert.DxnIdeal.nD Cert.DxnIdeal.τ).loc Cert.DxnIdeal.main_arg2)
      ∧ m' ((c.tc : Thread Cert.DxnReferenceIdeal.nD Cert.DxnReferenceIdeal.τ).loc Cert.DxnReferenceIdeal.main_arg3) = m ((c.tc : Thread Cert.DxnIdeal.nD Cert.DxnIdeal.τ).loc Cert.DxnIdeal.main_arg3)
      ∧ m' ((c.tc : Thread Cert.DxnReferenceIdeal.nD Cert.DxnReferenceIdeal.τ).loc Cert.DxnReferenceIdeal.main_arg4) = m ((c.tc : Thread Cert.DxnIdeal.nD Cert.DxnIdeal.τ).loc Cert.DxnIdeal.main_arg4)
      ∧ m' ((c.tc : Thread Cert.DxnReferenceIdeal.nD Cert.DxnReferenceIdeal.τ).loc Cert.DxnReferenceIdeal.main_arg5) = m ((c.tc : Thread Cert.DxnIdeal.nD Cert.DxnIdeal.τ).loc Cert.DxnIdeal.main_arg5)
      ∧ m' ((c.tc : Thread Cert.DxnReferenceIdeal.nD Cert.DxnReferenceIdeal.τ).loc Cert.DxnReferenceIdeal.main_arg6) = m ((c.tc : Thread Cert.DxnIdeal.nD Cert.DxnIdeal.τ).loc Cert.DxnIdeal.main_arg6)
      ∧ m' ((c.tc : Thread Cert.DxnReferenceIdeal.nD Cert.DxnReferenceIdeal.τ).loc Cert.DxnReferenceIdeal.main_arg7) = m ((c.tc : Thread Cert.DxnIdeal.nD Cert.DxnIdeal.τ).loc Cert.DxnIdeal.main_arg7)
      ∧ m' ((c.tc : Thread Cert.DxnReferenceIdeal.nD Cert.DxnReferenceIdeal.τ).loc Cert.DxnReferenceIdeal.main_arg8) = m ((c.tc : Thread Cert.DxnIdeal.nD Cert.DxnIdeal.τ).loc Cert.DxnIdeal.main_arg8)
      ∧ m' ((c.tc : Thread Cert.DxnReferenceIdeal.nD Cert.DxnReferenceIdeal.τ).loc Cert.DxnReferenceIdeal.main_arg9) = m ((c.tc : Thread Cert.DxnIdeal.nD Cert.DxnIdeal.τ).loc Cert.DxnIdeal.main_arg9)
      ∧ m' ((c.tc : Thread Cert.DxnReferenceIdeal.nD Cert.DxnReferenceIdeal.τ).loc Cert.DxnReferenceIdeal.main_arg10) = m ((c.tc : Thread Cert.DxnIdeal.nD Cert.DxnIdeal.τ).loc Cert.DxnIdeal.main_arg10)) →
    ∃ (v0 : (c : Dev Cert.DxnIdeal.nD) → Buf (Elt Ideal) ((c.tc : Thread Cert.DxnIdeal.nD Cert.DxnIdeal.τ).loc Cert.DxnIdeal.main_v1_0)) (v1 : (c : Dev Cert.DxnIdeal.nD) → Buf (Elt Ideal) ((c.tc : Thread Cert.DxnIdeal.nD Cert.DxnIdeal.τ).loc Cert.DxnIdeal.main_v1_1)) (v2 : (c : Dev Cert.DxnIdeal.nD) → Buf (Elt Ideal) ((c.tc : Thread Cert.DxnIdeal.nD Cert.DxnIdeal.τ).loc Cert.DxnIdeal.main_v1_2)),
      θ_run (Cert.DxnIdeal.defs (F := Ideal)) (onTc (τ := Cert.DxnIdeal.τ) (Cert.DxnIdeal.main (F := Ideal))) ⟨m, fun _ => 0, g⟩ (fun r => ∀ c : Dev Cert.DxnIdeal.nD,
          r.2.mem ((c.tc : Thread Cert.DxnIdeal.nD Cert.DxnIdeal.τ).loc Cert.DxnIdeal.main_v1_0) = v0 c
          ∧ r.2.mem ((c.tc : Thread Cert.DxnIdeal.nD Cert.DxnIdeal.τ).loc Cert.DxnIdeal.main_v1_1) = v1 c
          ∧ r.2.mem ((c.tc : Thread Cert.DxnIdeal.nD Cert.DxnIdeal.τ).loc Cert.DxnIdeal.main_v1_2) = v2 c
          ∧ r.2.mem ((c.tc : Thread Cert.DxnIdeal.nD Cert.DxnIdeal.τ).loc Cert.DxnIdeal.main_arg0) = m ((c.tc : Thread Cert.DxnIdeal.nD Cert.DxnIdeal.τ).loc Cert.DxnIdeal.main_arg0)
          ∧ r.2.mem ((c.tc : Thread Cert.DxnIdeal.nD Cert.DxnIdeal.τ).loc Cert.DxnIdeal.main_arg1) = m ((c.tc : Thread Cert.DxnIdeal.nD Cert.DxnIdeal.τ).loc Cert.DxnIdeal.main_arg1)
          ∧ r.2.mem ((c.tc : Thread Cert.DxnIdeal.nD Cert.DxnIdeal.τ).loc Cert.DxnIdeal.main_arg2) = m ((c.tc : Thread Cert.DxnIdeal.nD Cert.DxnIdeal.τ).loc Cert.DxnIdeal.main_arg2)
          ∧ r.2.mem ((c.tc : Thread Cert.DxnIdeal.nD Cert.DxnIdeal.τ).loc Cert.DxnIdeal.main_arg3) = m ((c.tc : Thread Cert.DxnIdeal.nD Cert.DxnIdeal.τ).loc Cert.DxnIdeal.main_arg3)
          ∧ r.2.mem ((c.tc : Thread Cert.DxnIdeal.nD Cert.DxnIdeal.τ).loc Cert.DxnIdeal.main_arg4) = m ((c.tc : Thread Cert.DxnIdeal.nD Cert.DxnIdeal.τ).loc Cert.DxnIdeal.main_arg4)
          ∧ r.2.mem ((c.tc : Thread Cert.DxnIdeal.nD Cert.DxnIdeal.τ).loc Cert.DxnIdeal.main_arg5) = m ((c.tc : Thread Cert.DxnIdeal.nD Cert.DxnIdeal.τ).loc Cert.DxnIdeal.main_arg5)
          ∧ r.2.mem ((c.tc : Thread Cert.DxnIdeal.nD Cert.DxnIdeal.τ).loc Cert.DxnIdeal.main_arg6) = m ((c.tc : Thread Cert.DxnIdeal.nD Cert.DxnIdeal.τ).loc Cert.DxnIdeal.main_arg6)
          ∧ r.2.mem ((c.tc : Thread Cert.DxnIdeal.nD Cert.DxnIdeal.τ).loc Cert.DxnIdeal.main_arg7) = m ((c.tc : Thread Cert.DxnIdeal.nD Cert.DxnIdeal.τ).loc Cert.DxnIdeal.main_arg7)
          ∧ r.2.mem ((c.tc : Thread Cert.DxnIdeal.nD Cert.DxnIdeal.τ).loc Cert.DxnIdeal.main_arg8) = m ((c.tc : Thread Cert.DxnIdeal.nD Cert.DxnIdeal.τ).loc Cert.DxnIdeal.main_arg8)
          ∧ r.2.mem ((c.tc : Thread Cert.DxnIdeal.nD Cert.DxnIdeal.τ).loc Cert.DxnIdeal.main_arg9) = m ((c.tc : Thread Cert.DxnIdeal.nD Cert.DxnIdeal.τ).loc Cert.DxnIdeal.main_arg9)
          ∧ r.2.mem ((c.tc : Thread Cert.DxnIdeal.nD Cert.DxnIdeal.τ).loc Cert.DxnIdeal.main_arg10) = m ((c.tc : Thread Cert.DxnIdeal.nD Cert.DxnIdeal.τ).loc Cert.DxnIdeal.main_arg10))
      ∧ θ_run (Cert.DxnReferenceIdeal.defs (F := Ideal)) (onTc (τ := Cert.DxnReferenceIdeal.τ) (Cert.DxnReferenceIdeal.main (F := Ideal))) ⟨m', fun _ => 0, g'⟩ (fun r => ∀ c : Dev Cert.DxnReferenceIdeal.nD,
          r.2.mem ((c.tc : Thread Cert.DxnReferenceIdeal.nD Cert.DxnReferenceIdeal.τ).loc Cert.DxnReferenceIdeal.main_v0_0) = v0 c
          ∧ r.2.mem ((c.tc : Thread Cert.DxnReferenceIdeal.nD Cert.DxnReferenceIdeal.τ).loc Cert.DxnReferenceIdeal.main_v0_1) = v1 c
          ∧ r.2.mem ((c.tc : Thread Cert.DxnReferenceIdeal.nD Cert.DxnReferenceIdeal.τ).loc Cert.DxnReferenceIdeal.main_v0_2) = v2 c
          ∧ r.2.mem ((c.tc : Thread Cert.DxnReferenceIdeal.nD Cert.DxnReferenceIdeal.τ).loc Cert.DxnReferenceIdeal.main_arg0) = m' ((c.tc : Thread Cert.DxnReferenceIdeal.nD Cert.DxnReferenceIdeal.τ).loc Cert.DxnReferenceIdeal.main_arg0)
          ∧ r.2.mem ((c.tc : Thread Cert.DxnReferenceIdeal.nD Cert.DxnReferenceIdeal.τ).loc Cert.DxnReferenceIdeal.main_arg1) = m' ((c.tc : Thread Cert.DxnReferenceIdeal.nD Cert.DxnReferenceIdeal.τ).loc Cert.DxnReferenceIdeal.main_arg1)
          ∧ r.2.mem ((c.tc : Thread Cert.DxnReferenceIdeal.nD Cert.DxnReferenceIdeal.τ).loc Cert.DxnReferenceIdeal.main_arg2) = m' ((c.tc : Thread Cert.DxnReferenceIdeal.nD Cert.DxnReferenceIdeal.τ).loc Cert.DxnReferenceIdeal.main_arg2)
          ∧ r.2.mem ((c.tc : Thread Cert.DxnReferenceIdeal.nD Cert.DxnReferenceIdeal.τ).loc Cert.DxnReferenceIdeal.main_arg3) = m' ((c.tc : Thread Cert.DxnReferenceIdeal.nD Cert.DxnReferenceIdeal.τ).loc Cert.DxnReferenceIdeal.main_arg3)
          ∧ r.2.mem ((c.tc : Thread Cert.DxnReferenceIdeal.nD Cert.DxnReferenceIdeal.τ).loc Cert.DxnReferenceIdeal.main_arg4) = m' ((c.tc : Thread Cert.DxnReferenceIdeal.nD Cert.DxnReferenceIdeal.τ).loc Cert.DxnReferenceIdeal.main_arg4)
          ∧ r.2.mem ((c.tc : Thread Cert.DxnReferenceIdeal.nD Cert.DxnReferenceIdeal.τ).loc Cert.DxnReferenceIdeal.main_arg5) = m' ((c.tc : Thread Cert.DxnReferenceIdeal.nD Cert.DxnReferenceIdeal.τ).loc Cert.DxnReferenceIdeal.main_arg5)
          ∧ r.2.mem ((c.tc : Thread Cert.DxnReferenceIdeal.nD Cert.DxnReferenceIdeal.τ).loc Cert.DxnReferenceIdeal.main_arg6) = m' ((c.tc : Thread Cert.DxnReferenceIdeal.nD Cert.DxnReferenceIdeal.τ).loc Cert.DxnReferenceIdeal.main_arg6)
          ∧ r.2.mem ((c.tc : Thread Cert.DxnReferenceIdeal.nD Cert.DxnReferenceIdeal.τ).loc Cert.DxnReferenceIdeal.main_arg7) = m' ((c.tc : Thread Cert.DxnReferenceIdeal.nD Cert.DxnReferenceIdeal.τ).loc Cert.DxnReferenceIdeal.main_arg7)
          ∧ r.2.mem ((c.tc : Thread Cert.DxnReferenceIdeal.nD Cert.DxnReferenceIdeal.τ).loc Cert.DxnReferenceIdeal.main_arg8) = m' ((c.tc : Thread Cert.DxnReferenceIdeal.nD Cert.DxnReferenceIdeal.τ).loc Cert.DxnReferenceIdeal.main_arg8)
          ∧ r.2.mem ((c.tc : Thread Cert.DxnReferenceIdeal.nD Cert.DxnReferenceIdeal.τ).loc Cert.DxnReferenceIdeal.main_arg9) = m' ((c.tc : Thread Cert.DxnReferenceIdeal.nD Cert.DxnReferenceIdeal.τ).loc Cert.DxnReferenceIdeal.main_arg9)
          ∧ r.2.mem ((c.tc : Thread Cert.DxnReferenceIdeal.nD Cert.DxnReferenceIdeal.τ).loc Cert.DxnReferenceIdeal.main_arg10) = m' ((c.tc : Thread Cert.DxnReferenceIdeal.nD Cert.DxnReferenceIdeal.τ).loc Cert.DxnReferenceIdeal.main_arg10))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)
      ∧ m' ((c.tc : Thread Cert.RowsReferenceIdeal.nD Cert.RowsReferenceIdeal.τ).loc Cert.RowsReferenceIdeal.main_arg2) = m ((c.tc : Thread Cert.RowsIdeal.nD Cert.RowsIdeal.τ).loc Cert.RowsIdeal.main_arg2)
      ∧ m' ((c.tc : Thread Cert.RowsReferenceIdeal.nD Cert.RowsReferenceIdeal.τ).loc Cert.RowsReferenceIdeal.main_arg3) = m ((c.tc : Thread Cert.RowsIdeal.nD Cert.RowsIdeal.τ).loc Cert.RowsIdeal.main_arg3)
      ∧ m' ((c.tc : Thread Cert.RowsReferenceIdeal.nD Cert.RowsReferenceIdeal.τ).loc Cert.RowsReferenceIdeal.main_arg4) = m ((c.tc : Thread Cert.RowsIdeal.nD Cert.RowsIdeal.τ).loc Cert.RowsIdeal.main_arg4)) →
    ∃ (v0 : (c : Dev Cert.RowsIdeal.nD) → Buf (Elt Ideal) ((c.tc : Thread Cert.RowsIdeal.nD Cert.RowsIdeal.τ).loc Cert.RowsIdeal.main_v0_0)) (v1 : (c : Dev Cert.RowsIdeal.nD) → Buf (Elt Ideal) ((c.tc : Thread Cert.RowsIdeal.nD Cert.RowsIdeal.τ).loc Cert.RowsIdeal.main_v0_1)) (v2 : (c : Dev Cert.RowsIdeal.nD) → Buf (Elt Ideal) ((c.tc : Thread Cert.RowsIdeal.nD Cert.RowsIdeal.τ).loc Cert.RowsIdeal.main_v0_2)) (v3 : (c : Dev Cert.RowsIdeal.nD) → Buf (Elt Ideal) ((c.tc : Thread Cert.RowsIdeal.nD Cert.RowsIdeal.τ).loc Cert.RowsIdeal.main_v0_3)) (v4 : (c : Dev Cert.RowsIdeal.nD) → Buf (Elt Ideal) ((c.tc : Thread Cert.RowsIdeal.nD Cert.RowsIdeal.τ).loc Cert.RowsIdeal.main_v0_4)) (v5 : (c : Dev Cert.RowsIdeal.nD) → Buf (Elt Ideal) ((c.tc : Thread Cert.RowsIdeal.nD Cert.RowsIdeal.τ).loc Cert.RowsIdeal.main_v0_5)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v0_0) = v0 c
          ∧ r.2.mem ((c.tc : Thread Cert.RowsIdeal.nD Cert.RowsIdeal.τ).loc Cert.RowsIdeal.main_v0_1) = v1 c
          ∧ r.2.mem ((c.tc : Thread Cert.RowsIdeal.nD Cert.RowsIdeal.τ).loc Cert.RowsIdeal.main_v0_2) = v2 c
          ∧ r.2.mem ((c.tc : Thread Cert.RowsIdeal.nD Cert.RowsIdeal.τ).loc Cert.RowsIdeal.main_v0_3) = v3 c
          ∧ r.2.mem ((c.tc : Thread Cert.RowsIdeal.nD Cert.RowsIdeal.τ).loc Cert.RowsIdeal.main_v0_4) = v4 c
          ∧ r.2.mem ((c.tc : Thread Cert.RowsIdeal.nD Cert.RowsIdeal.τ).loc Cert.RowsIdeal.main_v0_5) = v5 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v0_0) = v0 c
          ∧ r.2.mem ((c.tc : Thread Cert.RowsReferenceIdeal.nD Cert.RowsReferenceIdeal.τ).loc Cert.RowsReferenceIdeal.main_v0_1) = v1 c
          ∧ r.2.mem ((c.tc : Thread Cert.RowsReferenceIdeal.nD Cert.RowsReferenceIdeal.τ).loc Cert.RowsReferenceIdeal.main_v0_2) = v2 c
          ∧ r.2.mem ((c.tc : Thread Cert.RowsReferenceIdeal.nD Cert.RowsReferenceIdeal.τ).loc Cert.RowsReferenceIdeal.main_v0_3) = v3 c
          ∧ r.2.mem ((c.tc : Thread Cert.RowsReferenceIdeal.nD Cert.RowsReferenceIdeal.τ).loc Cert.RowsReferenceIdeal.main_v0_4) = v4 c
          ∧ r.2.mem ((c.tc : Thread Cert.RowsReferenceIdeal.nD Cert.RowsReferenceIdeal.τ).loc Cert.RowsReferenceIdeal.main_v0_5) = v5 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2)
          ∧ r.2.mem ((c.tc : Thread Cert.RowsReferenceIdeal.nD Cert.RowsReferenceIdeal.τ).loc Cert.RowsReferenceIdeal.main_arg3) = m' ((c.tc : Thread Cert.RowsReferenceIdeal.nD Cert.RowsReferenceIdeal.τ).loc Cert.RowsReferenceIdeal.main_arg3)
          ∧ r.2.mem ((c.tc : Thread Cert.RowsReferenceIdeal.nD Cert.RowsReferenceIdeal.τ).loc Cert.RowsReferenceIdeal.main_arg4) = m' ((c.tc : Thread Cert.RowsReferenceIdeal.nD Cert.RowsReferenceIdeal.τ).loc Cert.RowsReferenceIdeal.main_arg4))

def preserves_Bwd_BwdIdeal : Prop :=
  True

def algebraic_BwdIdeal_BwdReferenceIdeal [hBwdIdeal : Cert.BwdIdeal.Facts] [hBwdReferenceIdeal : Cert.BwdReferenceIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdReferenceIdeal.nD Cert.BwdReferenceIdeal.τ Cert.BwdReferenceIdeal.sig) → Buf (Elt Ideal) ℓ) (g' : Dev Cert.BwdReferenceIdeal.nD → PrngReg), Pre_BwdIdeal m →
    (∀ c : Dev Cert.BwdIdeal.nD,
      m' ((c.tc : Thread Cert.BwdReferenceIdeal.nD Cert.BwdReferenceIdeal.τ).loc Cert.BwdReferenceIdeal.main_arg0) = m ((c.tc : Thread Cert.BwdIdeal.nD Cert.BwdIdeal.τ).loc Cert.BwdIdeal.main_arg0)
      ∧ m' ((c.tc : Thread Cert.BwdReferenceIdeal.nD Cert.BwdReferenceIdeal.τ).loc Cert.BwdReferenceIdeal.main_arg1) = m ((c.tc : Thread Cert.BwdIdeal.nD Cert.BwdIdeal.τ).loc Cert.BwdIdeal.main_arg1)
      ∧ m' ((c.tc : Thread Cert.BwdReferenceIdeal.nD Cert.BwdReferenceIdeal.τ).loc Cert.BwdReferenceIdeal.main_arg2) = m ((c.tc : Thread Cert.BwdIdeal.nD Cert.BwdIdeal.τ).loc Cert.BwdIdeal.main_arg2)
      ∧ m' ((c.tc : Thread Cert.BwdReferenceIdeal.nD Cert.BwdReferenceIdeal.τ).loc Cert.BwdReferenceIdeal.main_arg3) = m ((c.tc : Thread Cert.BwdIdeal.nD Cert.BwdIdeal.τ).loc Cert.BwdIdeal.main_arg3)
      ∧ m' ((c.tc : Thread Cert.BwdReferenceIdeal.nD Cert.BwdReferenceIdeal.τ).loc Cert.BwdReferenceIdeal.main_arg4) = m ((c.tc : Thread Cert.BwdIdeal.nD Cert.BwdIdeal.τ).loc Cert.BwdIdeal.main_arg4)
      ∧ m' ((c.tc : Thread Cert.BwdReferenceIdeal.nD Cert.BwdReferenceIdeal.τ).loc Cert.BwdReferenceIdeal.main_arg5) = m ((c.tc : Thread Cert.BwdIdeal.nD Cert.BwdIdeal.τ).loc Cert.BwdIdeal.main_arg5)
      ∧ m' ((c.tc : Thread Cert.BwdReferenceIdeal.nD Cert.BwdReferenceIdeal.τ).loc Cert.BwdReferenceIdeal.main_arg6) = m ((c.tc : Thread Cert.BwdIdeal.nD Cert.BwdIdeal.τ).loc Cert.BwdIdeal.main_arg6)
      ∧ m' ((c.tc : Thread Cert.BwdReferenceIdeal.nD Cert.BwdReferenceIdeal.τ).loc Cert.BwdReferenceIdeal.main_arg7) = m ((c.tc : Thread Cert.BwdIdeal.nD Cert.BwdIdeal.τ).loc Cert.BwdIdeal.main_arg7)
      ∧ m' ((c.tc : Thread Cert.BwdReferenceIdeal.nD Cert.BwdReferenceIdeal.τ).loc Cert.BwdReferenceIdeal.main_arg8) = m ((c.tc : Thread Cert.BwdIdeal.nD Cert.BwdIdeal.τ).loc Cert.BwdIdeal.main_arg8)
      ∧ m' ((c.tc : Thread Cert.BwdReferenceIdeal.nD Cert.BwdReferenceIdeal.τ).loc Cert.BwdReferenceIdeal.main_arg9) = m ((c.tc : Thread Cert.BwdIdeal.nD Cert.BwdIdeal.τ).loc Cert.BwdIdeal.main_arg9)
      ∧ m' ((c.tc : Thread Cert.BwdReferenceIdeal.nD Cert.BwdReferenceIdeal.τ).loc Cert.BwdReferenceIdeal.main_arg10) = m ((c.tc : Thread Cert.BwdIdeal.nD Cert.BwdIdeal.τ).loc Cert.BwdIdeal.main_arg10)) →
    ∃ (v0 : (c : Dev Cert.BwdIdeal.nD) → Buf (Elt Ideal) ((c.tc : Thread Cert.BwdIdeal.nD Cert.BwdIdeal.τ).loc Cert.BwdIdeal.main_v3_0)) (v1 : (c : Dev Cert.BwdIdeal.nD) → Buf (Elt Ideal) ((c.tc : Thread Cert.BwdIdeal.nD Cert.BwdIdeal.τ).loc Cert.BwdIdeal.main_v3_1)) (v2 : (c : Dev Cert.BwdIdeal.nD) → Buf (Elt Ideal) ((c.tc : Thread Cert.BwdIdeal.nD Cert.BwdIdeal.τ).loc Cert.BwdIdeal.main_v3_2)) (v3 : (c : Dev Cert.BwdIdeal.nD) → Buf (Elt Ideal) ((c.tc : Thread Cert.BwdIdeal.nD Cert.BwdIdeal.τ).loc Cert.BwdIdeal.main_v3_3)) (v4 : (c : Dev Cert.BwdIdeal.nD) → Buf (Elt Ideal) ((c.tc : Thread Cert.BwdIdeal.nD Cert.BwdIdeal.τ).loc Cert.BwdIdeal.main_v3_4)) (v5 : (c : Dev Cert.BwdIdeal.nD) → Buf (Elt Ideal) ((c.tc : Thread Cert.BwdIdeal.nD Cert.BwdIdeal.τ).loc Cert.BwdIdeal.main_v3_5)) (v6 : (c : Dev Cert.BwdIdeal.nD) → Buf (Elt Ideal) ((c.tc : Thread Cert.BwdIdeal.nD Cert.BwdIdeal.τ).loc Cert.BwdIdeal.main_v3_6)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v3_0) = v0 c
          ∧ r.2.mem ((c.tc : Thread Cert.BwdIdeal.nD Cert.BwdIdeal.τ).loc Cert.BwdIdeal.main_v3_1) = v1 c
          ∧ r.2.mem ((c.tc : Thread Cert.BwdIdeal.nD Cert.BwdIdeal.τ).loc Cert.BwdIdeal.main_v3_2) = v2 c
          ∧ r.2.mem ((c.tc : Thread Cert.BwdIdeal.nD Cert.BwdIdeal.τ).loc Cert.BwdIdeal.main_v3_3) = v3 c
          ∧ r.2.mem ((c.tc : Thread Cert.BwdIdeal.nD Cert.BwdIdeal.τ).loc Cert.BwdIdeal.main_v3_4) = v4 c
          ∧ r.2.mem ((c.tc : Thread Cert.BwdIdeal.nD Cert.BwdIdeal.τ).loc Cert.BwdIdeal.main_v3_5) = v5 c
          ∧ r.2.mem ((c.tc : Thread Cert.BwdIdeal.nD Cert.BwdIdeal.τ).loc Cert.BwdIdeal.main_v3_6) = v6 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
          ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
          ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
          ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9)
          ∧ r.2.mem ((c.tc : Thread Cert.BwdIdeal.nD Cert.BwdIdeal.τ).loc Cert.BwdIdeal.main_arg10) = m ((c.tc : Thread Cert.BwdIdeal.nD Cert.BwdIdeal.τ).loc Cert.BwdIdeal.main_arg10))
      ∧ θ_run (Cert.BwdReferenceIdeal.defs (F := Ideal)) (onTc (τ := Cert.BwdReferenceIdeal.τ) (Cert.BwdReferenceIdeal.main (F := Ideal))) ⟨m', fun _ => 0, g'⟩ (fun r => ∀ c : Dev Cert.BwdReferenceIdeal.nD,
          r.2.mem ((c.tc : Thread Cert.BwdReferenceIdeal.nD Cert.BwdReferenceIdeal.τ).loc Cert.BwdReferenceIdeal.main_v0_0) = v0 c
          ∧ r.2.mem ((c.tc : Thread Cert.BwdReferenceIdeal.nD Cert.BwdReferenceIdeal.τ).loc Cert.BwdReferenceIdeal.main_v0_1) = v1 c
          ∧ r.2.mem ((c.tc : Thread Cert.BwdReferenceIdeal.nD Cert.BwdReferenceIdeal.τ).loc Cert.BwdReferenceIdeal.main_v0_2) = v2 c
          ∧ r.2.mem ((c.tc : Thread Cert.BwdReferenceIdeal.nD Cert.BwdReferenceIdeal.τ).loc Cert.BwdReferenceIdeal.main_v0_3) = v3 c
          ∧ r.2.mem ((c.tc : Thread Cert.BwdReferenceIdeal.nD Cert.BwdReferenceIdeal.τ).loc Cert.BwdReferenceIdeal.main_v0_4) = v4 c
          ∧ r.2.mem ((c.tc : Thread Cert.BwdReferenceIdeal.nD Cert.BwdReferenceIdeal.τ).loc Cert.BwdReferenceIdeal.main_v0_5) = v5 c
          ∧ r.2.mem ((c.tc : Thread Cert.BwdReferenceIdeal.nD Cert.BwdReferenceIdeal.τ).loc Cert.BwdReferenceIdeal.main_v0_6) = v6 c
          ∧ r.2.mem ((c.tc : Thread Cert.BwdReferenceIdeal.nD Cert.BwdReferenceIdeal.τ).loc Cert.BwdReferenceIdeal.main_arg0) = m' ((c.tc : Thread Cert.BwdReferenceIdeal.nD Cert.BwdReferenceIdeal.τ).loc Cert.BwdReferenceIdeal.main_arg0)
          ∧ r.2.mem ((c.tc : Thread Cert.BwdReferenceIdeal.nD Cert.BwdReferenceIdeal.τ).loc Cert.BwdReferenceIdeal.main_arg1) = m' ((c.tc : Thread Cert.BwdReferenceIdeal.nD Cert.BwdReferenceIdeal.τ).loc Cert.BwdReferenceIdeal.main_arg1)
          ∧ r.2.mem ((c.tc : Thread Cert.BwdReferenceIdeal.nD Cert.BwdReferenceIdeal.τ).loc Cert.BwdReferenceIdeal.main_arg2) = m' ((c.tc : Thread Cert.BwdReferenceIdeal.nD Cert.BwdReferenceIdeal.τ).loc Cert.BwdReferenceIdeal.main_arg2)
          ∧ r.2.mem ((c.tc : Thread Cert.BwdReferenceIdeal.nD Cert.BwdReferenceIdeal.τ).loc Cert.BwdReferenceIdeal.main_arg3) = m' ((c.tc : Thread Cert.BwdReferenceIdeal.nD Cert.BwdReferenceIdeal.τ).loc Cert.BwdReferenceIdeal.main_arg3)
          ∧ r.2.mem ((c.tc : Thread Cert.BwdReferenceIdeal.nD Cert.BwdReferenceIdeal.τ).loc Cert.BwdReferenceIdeal.main_arg4) = m' ((c.tc : Thread Cert.BwdReferenceIdeal.nD Cert.BwdReferenceIdeal.τ).loc Cert.BwdReferenceIdeal.main_arg4)
          ∧ r.2.mem ((c.tc : Thread Cert.BwdReferenceIdeal.nD Cert.BwdReferenceIdeal.τ).loc Cert.BwdReferenceIdeal.main_arg5) = m' ((c.tc : Thread Cert.BwdReferenceIdeal.nD Cert.BwdReferenceIdeal.τ).loc Cert.BwdReferenceIdeal.main_arg5)
          ∧ r.2.mem ((c.tc : Thread Cert.BwdReferenceIdeal.nD Cert.BwdReferenceIdeal.τ).loc Cert.BwdReferenceIdeal.main_arg6) = m' ((c.tc : Thread Cert.BwdReferenceIdeal.nD Cert.BwdReferenceIdeal.τ).loc Cert.BwdReferenceIdeal.main_arg6)
          ∧ r.2.mem ((c.tc : Thread Cert.BwdReferenceIdeal.nD Cert.BwdReferenceIdeal.τ).loc Cert.BwdReferenceIdeal.main_arg7) = m' ((c.tc : Thread Cert.BwdReferenceIdeal.nD Cert.BwdReferenceIdeal.τ).loc Cert.BwdReferenceIdeal.main_arg7)
          ∧ r.2.mem ((c.tc : Thread Cert.BwdReferenceIdeal.nD Cert.BwdReferenceIdeal.τ).loc Cert.BwdReferenceIdeal.main_arg8) = m' ((c.tc : Thread Cert.BwdReferenceIdeal.nD Cert.BwdReferenceIdeal.τ).loc Cert.BwdReferenceIdeal.main_arg8)
          ∧ r.2.mem ((c.tc : Thread Cert.BwdReferenceIdeal.nD Cert.BwdReferenceIdeal.τ).loc Cert.BwdReferenceIdeal.main_arg9) = m' ((c.tc : Thread Cert.BwdReferenceIdeal.nD Cert.BwdReferenceIdeal.τ).loc Cert.BwdReferenceIdeal.main_arg9)
          ∧ r.2.mem ((c.tc : Thread Cert.BwdReferenceIdeal.nD Cert.BwdReferenceIdeal.τ).loc Cert.BwdReferenceIdeal.main_arg10) = m' ((c.tc : Thread Cert.BwdReferenceIdeal.nD Cert.BwdReferenceIdeal.τ).loc Cert.BwdReferenceIdeal.main_arg10))

def Claim : Prop :=
  ∃ (hOut : Cert.Out.Facts) (hOutIdeal : Cert.OutIdeal.Facts) (hOutReferenceIdeal : Cert.OutReferenceIdeal.Facts) (hDxn : Cert.Dxn.Facts) (hDxnIdeal : Cert.DxnIdeal.Facts) (hDxnReferenceIdeal : Cert.DxnReferenceIdeal.Facts) (hRows : Cert.Rows.Facts) (hRowsIdeal : Cert.RowsIdeal.Facts) (hRowsReferenceIdeal : Cert.RowsReferenceIdeal.Facts) (hBwd : Cert.Bwd.Facts) (hBwdIdeal : Cert.BwdIdeal.Facts) (hBwdReferenceIdeal : Cert.BwdReferenceIdeal.Facts),
    quiescent_Out (hOut := hOut)
    ∧ quiescent_OutIdeal (hOutIdeal := hOutIdeal)
    ∧ quiescent_OutReferenceIdeal (hOutReferenceIdeal := hOutReferenceIdeal)
    ∧ quiescent_Dxn (hDxn := hDxn)
    ∧ quiescent_DxnIdeal (hDxnIdeal := hDxnIdeal)
    ∧ quiescent_DxnReferenceIdeal (hDxnReferenceIdeal := hDxnReferenceIdeal)
    ∧ quiescent_Rows (hRows := hRows)
    ∧ quiescent_RowsIdeal (hRowsIdeal := hRowsIdeal)
    ∧ quiescent_RowsReferenceIdeal (hRowsReferenceIdeal := hRowsReferenceIdeal)
    ∧ quiescent_Bwd (hBwd := hBwd)
    ∧ quiescent_BwdIdeal (hBwdIdeal := hBwdIdeal)
    ∧ quiescent_BwdReferenceIdeal (hBwdReferenceIdeal := hBwdReferenceIdeal)
    ∧ preserves_Out_OutIdeal
    ∧ algebraic_OutIdeal_OutReferenceIdeal (hOutIdeal := hOutIdeal) (hOutReferenceIdeal := hOutReferenceIdeal)
    ∧ preserves_Dxn_DxnIdeal
    ∧ algebraic_DxnIdeal_DxnReferenceIdeal (hDxnIdeal := hDxnIdeal) (hDxnReferenceIdeal := hDxnReferenceIdeal)
    ∧ preserves_Rows_RowsIdeal
    ∧ algebraic_RowsIdeal_RowsReferenceIdeal (hRowsIdeal := hRowsIdeal) (hRowsReferenceIdeal := hRowsReferenceIdeal)
    ∧ preserves_Bwd_BwdIdeal
    ∧ algebraic_BwdIdeal_BwdReferenceIdeal (hBwdIdeal := hBwdIdeal) (hBwdReferenceIdeal := hBwdReferenceIdeal)
-- ==== Out.lean ====
abbrev S1024x5504 : Shape := ⟨2, ![1024, 5504]⟩
abbrev S5504x4096 : Shape := ⟨2, ![5504, 4096]⟩
abbrev S1024x4096 : Shape := ⟨2, ![1024, 4096]⟩
abbrev S5504x1 : Shape := ⟨2, ![5504, 1]⟩
abbrev S1x4096 : Shape := ⟨2, ![1, 4096]⟩
abbrev S1024x1 : Shape := ⟨2, ![1024, 1]⟩
abbrev S1x1 : Shape := ⟨2, ![1, 1]⟩
abbrev S5504x1024 : Shape := ⟨2, ![5504, 1024]⟩
abbrev S5504x128 : Shape := ⟨2, ![5504, 128]⟩
abbrev S1024x128 : Shape := ⟨2, ![1024, 128]⟩
abbrev S5504x256 : Shape := ⟨2, ![5504, 256]⟩
abbrev S1024x256 : Shape := ⟨2, ![1024, 256]⟩
abbrev S64x4096 : Shape := ⟨2, ![64, 4096]⟩
abbrev S64x128 : Shape := ⟨2, ![64, 128]⟩
abbrev S1x128 : Shape := ⟨2, ![1, 128]⟩

abbrev nBuf : Space → Nat
  | .hbm => 18
  | .vmem => 22
  | .smem => 2
  | _ => 0

abbrev bufTy : (tb : Table) → Fin (tcTables nBuf tb) → BufTy
  | .hbm, ⟨0, _⟩ => ⟨S1024x5504, .fp8e4m3⟩
  | .hbm, ⟨1, _⟩ => ⟨S5504x4096, .fp8e4m3⟩
  | .hbm, ⟨2, _⟩ => ⟨S1024x4096, .fp8e5m2⟩
  | .hbm, ⟨3, _⟩ => ⟨S5504x1, .f32⟩
  | .hbm, ⟨4, _⟩ => ⟨S1024x4096, .f32⟩
  | .hbm, ⟨5, _⟩ => ⟨S1024x4096, .bf16⟩
  | .hbm, ⟨6, _⟩ => ⟨S1x4096, .f32⟩
  | .hbm, ⟨7, _⟩ => ⟨S1024x1, .f32⟩
  | .hbm, ⟨8, _⟩ => ⟨S1024x1, .f32⟩
  | .hbm, ⟨9, _⟩ => ⟨S1x1, .f32⟩
  | .hbm, ⟨10, _⟩ => ⟨S1x1, .f32⟩
  | .hbm, ⟨11, _⟩ => ⟨S5504x1024, .fp8e4m3⟩
  | .hbm, ⟨12, _⟩ => ⟨S5504x128, .f32⟩
  | .hbm, ⟨13, _⟩ => ⟨S1024x128, .f32⟩
  | .hbm, ⟨14, _⟩ => ⟨S1024x128, .f32⟩
  | .hbm, ⟨15, _⟩ => ⟨S1024x4096, .bf16⟩
  | .hbm, ⟨16, _⟩ => ⟨S5504x4096, .bf16⟩
  | .hbm, ⟨17, _⟩ => ⟨S1024x4096, .bf16⟩
  | .local _ .vmem, ⟨0, _⟩ => ⟨S1024x5504, .fp8e4m3⟩
  | .local _ .vmem, ⟨1, _⟩ => ⟨S5504x1024, .fp8e4m3⟩
  | .local _ .vmem, ⟨2, _⟩ => ⟨S5504x256, .fp8e4m3⟩
  | .local _ .vmem, ⟨3, _⟩ => ⟨S5504x256, .fp8e4m3⟩
  | .local _ .vmem, ⟨4, _⟩ => ⟨S1024x256, .fp8e5m2⟩
  | .local _ .vmem, ⟨5, _⟩ => ⟨S1024x256, .fp8e5m2⟩
  | .local _ .vmem, ⟨6, _⟩ => ⟨S5504x128, .f32⟩
  | .local _ .vmem, ⟨7, _⟩ => ⟨S64x4096, .f32⟩
  | .local _ .vmem, ⟨8, _⟩ => ⟨S64x4096, .f32⟩
  | .local _ .vmem, ⟨9, _⟩ => ⟨S64x4096, .bf16⟩
  | .local _ .vmem, ⟨10, _⟩ => ⟨S64x4096, .bf16⟩
  | .local _ .vmem, ⟨11, _⟩ => ⟨S1x4096, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S1024x256, .bf16⟩
  | .local _ .vmem, ⟨17, _⟩ => ⟨S1024x256, .bf16⟩
  | .local _ .vmem, ⟨18, _⟩ => ⟨S5504x256, .bf16⟩
  | .local _ .vmem, ⟨19, _⟩ => ⟨S5504x256, .bf16⟩
  | .local _ .vmem, ⟨20, _⟩ => ⟨S64x4096, .bf16⟩
  | .local _ .vmem, ⟨21, _⟩ => ⟨S64x4096, .bf16⟩
  | .local _ .smem, ⟨0, _⟩ => ⟨S1x1, .f32⟩
  | .local _ .smem, ⟨1, _⟩ => ⟨S1x1, .f32⟩
  | _, _ => ⟨S1024x5504, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg10_0 : Ref sig .tc := ⟨.smem, 0, rfl⟩
abbrev cc0_stg11_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x5504 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5504x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5504x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5504x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5504x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutReferenceIdeal.lean ====
abbrev S1024x5504 : Shape := ⟨2, ![1024, 5504]⟩
abbrev S5504x4096 : Shape := ⟨2, ![5504, 4096]⟩
abbrev S1024x4096 : Shape := ⟨2, ![1024, 4096]⟩
abbrev S5504x1 : Shape := ⟨2, ![5504, 1]⟩
abbrev S1x4096 : Shape := ⟨2, ![1, 4096]⟩
abbrev S1024x1 : Shape := ⟨2, ![1024, 1]⟩
abbrev S1x1 : Shape := ⟨2, ![1, 1]⟩

abbrev nBuf : Space → Nat
  | .hbm => 14
  | .vmem => 14
  | .smem => 0
  | _ => 0

abbrev bufTy : (tb : Table) → Fin (tcTables nBuf tb) → BufTy
  | .hbm, ⟨0, _⟩ => ⟨S1024x5504, .fp8e4m3⟩
  | .hbm, ⟨1, _⟩ => ⟨S5504x4096, .fp8e4m3⟩
  | .hbm, ⟨2, _⟩ => ⟨S1024x4096, .fp8e5m2⟩
  | .hbm, ⟨3, _⟩ => ⟨S5504x1, .f32⟩
  | .hbm, ⟨4, _⟩ => ⟨S1024x4096, .f32⟩
  | .hbm, ⟨5, _⟩ => ⟨S1024x4096, .bf16⟩
  | .hbm, ⟨6, _⟩ => ⟨S1x4096, .f32⟩
  | .hbm, ⟨7, _⟩ => ⟨S1024x1, .f32⟩
  | .hbm, ⟨8, _⟩ => ⟨S1024x1, .f32⟩
  | .hbm, ⟨9, _⟩ => ⟨S1x1, .f32⟩
  | .hbm, ⟨10, _⟩ => ⟨S1x1, .f32⟩
  | .hbm, ⟨11, _⟩ => ⟨S1024x4096, .bf16⟩
  | .hbm, ⟨12, _⟩ => ⟨S5504x4096, .bf16⟩
  | .hbm, ⟨13, _⟩ => ⟨S1024x4096, .bf16⟩
  | .local _ .vmem, ⟨0, _⟩ => ⟨S1024x5504, .fp8e4m3⟩
  | .local _ .vmem, ⟨1, _⟩ => ⟨S5504x4096, .fp8e4m3⟩
  | .local _ .vmem, ⟨2, _⟩ => ⟨S1024x4096, .fp8e5m2⟩
  | .local _ .vmem, ⟨3, _⟩ => ⟨S5504x1, .f32⟩
  | .local _ .vmem, ⟨4, _⟩ => ⟨S1024x4096, .f32⟩
  | .local _ .vmem, ⟨5, _⟩ => ⟨S1024x4096, .bf16⟩
  | .local _ .vmem, ⟨6, _⟩ => ⟨S1x4096, .f32⟩
  | .local _ .vmem, ⟨7, _⟩ => ⟨S1024x1, .f32⟩
  | .local _ .vmem, ⟨8, _⟩ => ⟨S1024x1, .f32⟩
  | .local _ .vmem, ⟨9, _⟩ => ⟨S1x1, .f32⟩
  | .local _ .vmem, ⟨10, _⟩ => ⟨S1x1, .f32⟩
  | .local _ .vmem, ⟨11, _⟩ => ⟨S1024x4096, .bf16⟩
  | .local _ .vmem, ⟨12, _⟩ => ⟨S5504x4096, .bf16⟩
  | .local _ .vmem, ⟨13, _⟩ => ⟨S1024x4096, .bf16⟩
  | _, _ => ⟨S1024x5504, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1024x5504 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5504x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4096 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5504x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5504x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Dxn.lean ====
abbrev S1024x5504 : Shape := ⟨2, ![1024, 5504]⟩
abbrev S4096x5504 : Shape := ⟨2, ![4096, 5504]⟩
abbrev S1024x4096 : Shape := ⟨2, ![1024, 4096]⟩
abbrev S1024x1 : Shape := ⟨2, ![1024, 1]⟩
abbrev S1x4096 : Shape := ⟨2, ![1, 4096]⟩
abbrev S1x1 : Shape := ⟨2, ![1, 1]⟩
abbrev S1024x128 : Shape := ⟨2, ![1024, 128]⟩
abbrev S256x5504 : Shape := ⟨2, ![256, 5504]⟩
abbrev S1024x256 : Shape := ⟨2, ![1024, 256]⟩
abbrev S1x256 : Shape := ⟨2, ![1, 256]⟩
abbrev S128 : Shape := ⟨1, ![128]⟩
abbrev S1x128 : Shape := ⟨2, ![1, 128]⟩
abbrev S1024 : Shape := ⟨1, ![1024]⟩

abbrev nBuf : Space → Nat
  | .hbm => 15
  | .vmem => 17
  | .smem => 4
  | _ => 0

abbrev bufTy : (tb : Table) → Fin (tcTables nBuf tb) → BufTy
  | .hbm, ⟨0, _⟩ => ⟨S1024x5504, .fp8e5m2⟩
  | .hbm, ⟨1, _⟩ => ⟨S1024x5504, .fp8e5m2⟩
  | .hbm, ⟨2, _⟩ => ⟨S4096x5504, .fp8e4m3⟩
  | .hbm, ⟨3, _⟩ => ⟨S4096x5504, .fp8e4m3⟩
  | .hbm, ⟨4, _⟩ => ⟨S1024x4096, .bf16⟩
  | .hbm, ⟨5, _⟩ => ⟨S1024x1, .f32⟩
  | .hbm, ⟨6, _⟩ => ⟨S1x4096, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S1024x128, .f32⟩
  | .hbm, ⟨12, _⟩ => ⟨S1024x4096, .f32⟩
  | .hbm, ⟨13, _⟩ => ⟨S1x4096, .f32⟩
  | .hbm, ⟨14, _⟩ => ⟨S1024x128, .f32⟩
  | .local _ .vmem, ⟨0, _⟩ => ⟨S1024x5504, .fp8e5m2⟩
  | .local _ .vmem, ⟨1, _⟩ => ⟨S1024x5504, .fp8e5m2⟩
  | .local _ .vmem, ⟨2, _⟩ => ⟨S256x5504, .fp8e4m3⟩
  | .local _ .vmem, ⟨3, _⟩ => ⟨S256x5504, .fp8e4m3⟩
  | .local _ .vmem, ⟨4, _⟩ => ⟨S256x5504, .fp8e4m3⟩
  | .local _ .vmem, ⟨5, _⟩ => ⟨S256x5504, .fp8e4m3⟩
  | .local _ .vmem, ⟨6, _⟩ => ⟨S1024x256, .bf16⟩
  | .local _ .vmem, ⟨7, _⟩ => ⟨S1024x256, .bf16⟩
  | .local _ .vmem, ⟨8, _⟩ => ⟨S1024x128, .f32⟩
  | .local _ .vmem, ⟨9, _⟩ => ⟨S1x256, .f32⟩
  | .local _ .vmem, ⟨10, _⟩ => ⟨S1x256, .f32⟩
  | .local _ .vmem, ⟨11, _⟩ => ⟨S1024x256, .f32⟩
  | .local _ .vmem, ⟨12, _⟩ => ⟨S1024x256, .f32⟩
  | .local _ .vmem, ⟨13, _⟩ => ⟨S1x256, .f32⟩
  | .local _ .vmem, ⟨14, _⟩ => ⟨S1x256, .f32⟩
  | .local _ .vmem, ⟨15, _⟩ => ⟨S1024x128, .f32⟩
  | .local _ .vmem, ⟨16, _⟩ => ⟨S1024x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S1024x5504, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_scratch0 : Ref sig .tc := ⟨.vmem, 16, rfl⟩
abbrev cc0_stg7_0 : Ref sig .tc := ⟨.smem, 0, rfl⟩
abbrev cc0_stg8_0 : Ref sig .tc := ⟨.smem, 1, rfl⟩
abbrev cc0_stg9_0 : Ref sig .tc := ⟨.smem, 2, rfl⟩
abbrev cc0_stg10_0 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v51 : BitVec 1 := Scalar.cmpi .eq arg0 c15_i32
  let v52 : BitVec 32 := Scalar.extui v51
  let c0_i32_38 : BitVec 32 := 0#32
  let v53 : BitVec 1 := Scalar.cmpi .ne v52 c0_i32_38
  v53

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x5504 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x5504 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5504 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5504 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== DxnReferenceIdeal.lean ====
abbrev S1024x5504 : Shape := ⟨2, ![1024, 5504]⟩
abbrev S4096x5504 : Shape := ⟨2, ![4096, 5504]⟩
abbrev S1024x4096 : Shape := ⟨2, ![1024, 4096]⟩
abbrev S1024x1 : Shape := ⟨2, ![1024, 1]⟩
abbrev S1x4096 : Shape := ⟨2, ![1, 4096]⟩
abbrev S1x1 : Shape := ⟨2, ![1, 1]⟩
abbrev S1024x128 : Shape := ⟨2, ![1024, 128]⟩
abbrev S4096 : Shape := ⟨1, ![4096]⟩
abbrev S1024 : Shape := ⟨1, ![1024]⟩

abbrev nBuf : Space → Nat
  | .hbm => 14
  | .vmem => 14
  | .smem => 0
  | _ => 0

abbrev bufTy : (tb : Table) → Fin (tcTables nBuf tb) → BufTy
  | .hbm, ⟨0, _⟩ => ⟨S1024x5504, .fp8e5m2⟩
  | .hbm, ⟨1, _⟩ => ⟨S1024x5504, .fp8e5m2⟩
  | .hbm, ⟨2, _⟩ => ⟨S4096x5504, .fp8e4m3⟩
  | .hbm, ⟨3, _⟩ => ⟨S4096x5504, .fp8e4m3⟩
  | .hbm, ⟨4, _⟩ => ⟨S1024x4096, .bf16⟩
  | .hbm, ⟨5, _⟩ => ⟨S1024x1, .f32⟩
  | .hbm, ⟨6, _⟩ => ⟨S1x4096, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S1024x4096, .f32⟩
  | .hbm, ⟨12, _⟩ => ⟨S1x4096, .f32⟩
  | .hbm, ⟨13, _⟩ => ⟨S1024x128, .f32⟩
  | .local _ .vmem, ⟨0, _⟩ => ⟨S1024x5504, .fp8e5m2⟩
  | .local _ .vmem, ⟨1, _⟩ => ⟨S1024x5504, .fp8e5m2⟩
  | .local _ .vmem, ⟨2, _⟩ => ⟨S4096x5504, .fp8e4m3⟩
  | .local _ .vmem, ⟨3, _⟩ => ⟨S4096x5504, .fp8e4m3⟩
  | .local _ .vmem, ⟨4, _⟩ => ⟨S1024x4096, .bf16⟩
  | .local _ .vmem, ⟨5, _⟩ => ⟨S1024x1, .f32⟩
  | .local _ .vmem, ⟨6, _⟩ => ⟨S1x4096, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1024x4096, .f32⟩
  | .local _ .vmem, ⟨12, _⟩ => ⟨S1x4096, .f32⟩
  | .local _ .vmem, ⟨13, _⟩ => ⟨S1024x128, .f32⟩
  | _, _ => ⟨S1024x5504, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1024x5504 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x5504 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5504 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x5504 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Rows.lean ====
abbrev S1024x4096 : Shape := ⟨2, ![1024, 4096]⟩
abbrev S1x4096 : Shape := ⟨2, ![1, 4096]⟩
abbrev S1x1 : Shape := ⟨2, ![1, 1]⟩
abbrev S4096x1024 : Shape := ⟨2, ![4096, 1024]⟩
abbrev S1024x128 : Shape := ⟨2, ![1024, 128]⟩
abbrev S128x4096 : Shape := ⟨2, ![128, 4096]⟩
abbrev S4096x128 : Shape := ⟨2, ![4096, 128]⟩
abbrev S128x128 : Shape := ⟨2, ![128, 128]⟩
abbrev S8x128 : Shape := ⟨2, ![8, 128]⟩
abbrev S128 : Shape := ⟨1, ![128]⟩
abbrev S128x1 : Shape := ⟨2, ![128, 1]⟩
abbrev S16x8x4096 : Shape := ⟨3, ![16, 8, 4096]⟩
abbrev S8x4096 : Shape := ⟨2, ![8, 4096]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 11
  | .vmem => 15
  | .smem => 4
  | _ => 0

abbrev bufTy : (tb : Table) → Fin (tcTables nBuf tb) → BufTy
  | .hbm, ⟨0, _⟩ => ⟨S1024x4096, .bf16⟩
  | .hbm, ⟨1, _⟩ => ⟨S1x4096, .f32⟩
  | .hbm, ⟨2, _⟩ => ⟨S1024x4096, .bf16⟩
  | .hbm, ⟨3, _⟩ => ⟨S1x1, .f32⟩
  | .hbm, ⟨4, _⟩ => ⟨S1x1, .f32⟩
  | .hbm, ⟨5, _⟩ => ⟨S1024x4096, .fp8e4m3⟩
  | .hbm, ⟨6, _⟩ => ⟨S4096x1024, .fp8e4m3⟩
  | .hbm, ⟨7, _⟩ => ⟨S1024x4096, .fp8e5m2⟩
  | .hbm, ⟨8, _⟩ => ⟨S1024x128, .f32⟩
  | .hbm, ⟨9, _⟩ => ⟨S1x1, .f32⟩
  | .hbm, ⟨10, _⟩ => ⟨S1x1, .f32⟩
  | .local _ .vmem, ⟨0, _⟩ => ⟨S128x4096, .bf16⟩
  | .local _ .vmem, ⟨1, _⟩ => ⟨S128x4096, .bf16⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | .local _ .vmem, ⟨5, _⟩ => ⟨S128x4096, .fp8e4m3⟩
  | .local _ .vmem, ⟨6, _⟩ => ⟨S128x4096, .fp8e4m3⟩
  | .local _ .vmem, ⟨7, _⟩ => ⟨S4096x128, .fp8e4m3⟩
  | .local _ .vmem, ⟨8, _⟩ => ⟨S4096x128, .fp8e4m3⟩
  | .local _ .vmem, ⟨9, _⟩ => ⟨S128x4096, .fp8e5m2⟩
  | .local _ .vmem, ⟨10, _⟩ => ⟨S128x4096, .fp8e5m2⟩
  | .local _ .vmem, ⟨11, _⟩ => ⟨S128x128, .f32⟩
  | .local _ .vmem, ⟨12, _⟩ => ⟨S128x128, .f32⟩
  | .local _ .vmem, ⟨13, _⟩ => ⟨S8x128, .f32⟩
  | .local _ .vmem, ⟨14, _⟩ => ⟨S8x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg3_0 : Ref sig .tc := ⟨.smem, 0, rfl⟩
abbrev cc0_stg4_0 : Ref sig .tc := ⟨.smem, 1, rfl⟩
abbrev cc0_stg9_0 : Ref sig .tc := ⟨.smem, 2, rfl⟩
abbrev cc0_stg10_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v189 : BitVec 1 := Scalar.cmpi .eq arg0 c7_i32
  let v190 : BitVec 32 := Scalar.extui v189
  let c0_i32_35 : BitVec 32 := 0#32
  let v191 : BitVec 1 := Scalar.cmpi .ne v190 c0_i32_35
  v191

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RowsReferenceIdeal.lean ====
abbrev S1024x4096 : Shape := ⟨2, ![1024, 4096]⟩
abbrev S1x4096 : Shape := ⟨2, ![1, 4096]⟩
abbrev S1x1 : Shape := ⟨2, ![1, 1]⟩
abbrev S4096x1024 : Shape := ⟨2, ![4096, 1024]⟩
abbrev S1024x128 : Shape := ⟨2, ![1024, 128]⟩
abbrev S1024 : Shape := ⟨1, ![1024]⟩
abbrev S1024x1 : Shape := ⟨2, ![1024, 1]⟩
abbrev S1x1024x4096 : Shape := ⟨3, ![1, 1024, 4096]⟩
abbrev S1 : Shape := ⟨1, ![1]⟩
abbrev S1x1x1 : Shape := ⟨3, ![1, 1, 1]⟩

abbrev nBuf : Space → Nat
  | .hbm => 11
  | .vmem => 11
  | .smem => 0
  | _ => 0

abbrev bufTy : (tb : Table) → Fin (tcTables nBuf tb) → BufTy
  | .hbm, ⟨0, _⟩ => ⟨S1024x4096, .bf16⟩
  | .hbm, ⟨1, _⟩ => ⟨S1x4096, .f32⟩
  | .hbm, ⟨2, _⟩ => ⟨S1024x4096, .bf16⟩
  | .hbm, ⟨3, _⟩ => ⟨S1x1, .f32⟩
  | .hbm, ⟨4, _⟩ => ⟨S1x1, .f32⟩
  | .hbm, ⟨5, _⟩ => ⟨S1024x4096, .fp8e4m3⟩
  | .hbm, ⟨6, _⟩ => ⟨S4096x1024, .fp8e4m3⟩
  | .hbm, ⟨7, _⟩ => ⟨S1024x4096, .fp8e5m2⟩
  | .hbm, ⟨8, _⟩ => ⟨S1024x128, .f32⟩
  | .hbm, ⟨9, _⟩ => ⟨S1x1, .f32⟩
  | .hbm, ⟨10, _⟩ => ⟨S1x1, .f32⟩
  | .local _ .vmem, ⟨0, _⟩ => ⟨S1024x4096, .bf16⟩
  | .local _ .vmem, ⟨1, _⟩ => ⟨S1x4096, .f32⟩
  | .local _ .vmem, ⟨2, _⟩ => ⟨S1024x4096, .bf16⟩
  | .local _ .vmem, ⟨3, _⟩ => ⟨S1x1, .f32⟩
  | .local _ .vmem, ⟨4, _⟩ => ⟨S1x1, .f32⟩
  | .local _ .vmem, ⟨5, _⟩ => ⟨S1024x4096, .fp8e4m3⟩
  | .local _ .vmem, ⟨6, _⟩ => ⟨S4096x1024, .fp8e4m3⟩
  | .local _ .vmem, ⟨7, _⟩ => ⟨S1024x4096, .fp8e5m2⟩
  | .local _ .vmem, ⟨8, _⟩ => ⟨S1024x128, .f32⟩
  | .local _ .vmem, ⟨9, _⟩ => ⟨S1x1, .f32⟩
  | .local _ .vmem, ⟨10, _⟩ => ⟨S1x1, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x4096 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Bwd.lean ====
abbrev S1024x4096 : Shape := ⟨2, ![1024, 4096]⟩
abbrev S5504x4096 : Shape := ⟨2, ![5504, 4096]⟩
abbrev S1024x5504 : Shape := ⟨2, ![1024, 5504]⟩
abbrev S1x5504 : Shape := ⟨2, ![1, 5504]⟩
abbrev S1x1 : Shape := ⟨2, ![1, 1]⟩
abbrev S4096x1024 : Shape := ⟨2, ![4096, 1024]⟩
abbrev S5504x1 : Shape := ⟨2, ![5504, 1]⟩
abbrev S5504x128 : Shape := ⟨2, ![5504, 128]⟩
abbrev S4096x5504 : Shape := ⟨2, ![4096, 5504]⟩
abbrev S256x4096 : Shape := ⟨2, ![256, 4096]⟩
abbrev S1024x256 : Shape := ⟨2, ![1024, 256]⟩
abbrev S1x256 : Shape := ⟨2, ![1, 256]⟩
abbrev S256x128 : Shape := ⟨2, ![256, 128]⟩
abbrev S4096x256 : Shape := ⟨2, ![4096, 256]⟩
abbrev S8x128 : Shape := ⟨2, ![8, 128]⟩
abbrev S128x8x256 : Shape := ⟨3, ![128, 8, 256]⟩
abbrev S8x256 : Shape := ⟨2, ![8, 256]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 21
  | .vmem => 24
  | .smem => 7
  | _ => 0

abbrev bufTy : (tb : Table) → Fin (tcTables nBuf tb) → BufTy
  | .hbm, ⟨0, _⟩ => ⟨S1024x4096, .fp8e5m2⟩
  | .hbm, ⟨1, _⟩ => ⟨S1024x4096, .fp8e4m3⟩
  | .hbm, ⟨2, _⟩ => ⟨S5504x4096, .bf16⟩
  | .hbm, ⟨3, _⟩ => ⟨S1024x5504, .f32⟩
  | .hbm, ⟨4, _⟩ => ⟨S1024x5504, .f32⟩
  | .hbm, ⟨5, _⟩ => ⟨S1x5504, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S4096x1024, .fp8e4m3⟩
  | .hbm, ⟨12, _⟩ => ⟨S5504x1, .f32⟩
  | .hbm, ⟨13, _⟩ => ⟨S5504x128, .f32⟩
  | .hbm, ⟨14, _⟩ => ⟨S5504x4096, .fp8e4m3⟩
  | .hbm, ⟨15, _⟩ => ⟨S1024x5504, .fp8e5m2⟩
  | .hbm, ⟨16, _⟩ => ⟨S1024x5504, .fp8e5m2⟩
  | .hbm, ⟨17, _⟩ => ⟨S4096x5504, .bf16⟩
  | .hbm, ⟨18, _⟩ => ⟨S4096x5504, .bf16⟩
  | .hbm, ⟨19, _⟩ => ⟨S1x1, .f32⟩
  | .hbm, ⟨20, _⟩ => ⟨S1x1, .f32⟩
  | .local _ .vmem, ⟨0, _⟩ => ⟨S1024x4096, .fp8e5m2⟩
  | .local _ .vmem, ⟨1, _⟩ => ⟨S4096x1024, .fp8e4m3⟩
  | .local _ .vmem, ⟨2, _⟩ => ⟨S256x4096, .bf16⟩
  | .local _ .vmem, ⟨3, _⟩ => ⟨S256x4096, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x256, .f32⟩
  | .local _ .vmem, ⟨9, _⟩ => ⟨S1x256, .f32⟩
  | .local _ .vmem, ⟨10, _⟩ => ⟨S256x128, .f32⟩
  | .local _ .vmem, ⟨11, _⟩ => ⟨S256x128, .f32⟩
  | .local _ .vmem, ⟨12, _⟩ => ⟨S256x4096, .fp8e4m3⟩
  | .local _ .vmem, ⟨13, _⟩ => ⟨S256x4096, .fp8e4m3⟩
  | .local _ .vmem, ⟨14, _⟩ => ⟨S1024x256, .fp8e5m2⟩
  | .local _ .vmem, ⟨15, _⟩ => ⟨S1024x256, .fp8e5m2⟩
  | .local _ .vmem, ⟨16, _⟩ => ⟨S1024x256, .fp8e5m2⟩
  | .local _ .vmem, ⟨17, _⟩ => ⟨S1024x256, .fp8e5m2⟩
  | .local _ .vmem, ⟨18, _⟩ => ⟨S4096x256, .bf16⟩
  | .local _ .vmem, ⟨19, _⟩ => ⟨S4096x256, .bf16⟩
  | .local _ .vmem, ⟨20, _⟩ => ⟨S4096x256, .bf16⟩
  | .local _ .vmem, ⟨21, _⟩ => ⟨S4096x256, .bf16⟩
  | .local _ .vmem, ⟨22, _⟩ => ⟨S8x128, .f32⟩
  | .local _ .vmem, ⟨23, _⟩ => ⟨S8x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x1, .f32⟩
  | _, _ => ⟨S1024x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev main_v3_6 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_stg7_0 : Ref sig .tc := ⟨.smem, 0, rfl⟩
abbrev cc0_stg8_0 : Ref sig .tc := ⟨.smem, 1, rfl⟩
abbrev cc0_stg9_0 : Ref sig .tc := ⟨.smem, 2, rfl⟩
abbrev cc0_stg10_0 : Ref sig .tc := ⟨.smem, 3, rfl⟩
abbrev cc0_stg11_0 : Ref sig .tc := ⟨.smem, 4, rfl⟩
abbrev cc0_stg17_0 : Ref sig .tc := ⟨.smem, 5, rfl⟩
abbrev cc0_stg18_0 : Ref sig .tc := ⟨.smem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![22], ![false]⟩

def k0_cond2 (i : grid0.Coords) : BitVec 1 :=
  let arg0 : BitVec 32 := BitVec.ofNat 32 (i 0).val
  let c21_i32 : BitVec 32 := 21#32
  let v454 : BitVec 1 := Scalar.cmpi .eq arg0 c21_i32
  let v455 : BitVec 32 := Scalar.extui v454
  let c0_i32_222 : BitVec 32 := 0#32
  let v456 : BitVec 1 := Scalar.cmpi .ne v455 c0_i32_222
  v456

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x4096 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .fp8e5m2 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4096x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4096x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .smem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .smem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== BwdReferenceIdeal.lean ====
abbrev S1024x4096 : Shape := ⟨2, ![1024, 4096]⟩
abbrev S5504x4096 : Shape := ⟨2, ![5504, 4096]⟩
abbrev S1024x5504 : Shape := ⟨2, ![1024, 5504]⟩
abbrev S1x5504 : Shape := ⟨2, ![1, 5504]⟩
abbrev S1x1 : Shape := ⟨2, ![1, 1]⟩
abbrev S4096x5504 : Shape := ⟨2, ![4096, 5504]⟩
abbrev S5504x1 : Shape := ⟨2, ![5504, 1]⟩
abbrev S1x1024x5504 : Shape := ⟨3, ![1, 1024, 5504]⟩
abbrev S1 : Shape := ⟨1, ![1]⟩
abbrev S1x1x1 : Shape := ⟨3, ![1, 1, 1]⟩

abbrev nBuf : Space → Nat
  | .hbm => 18
  | .vmem => 18
  | .smem => 0
  | _ => 0

abbrev bufTy : (tb : Table) → Fin (tcTables nBuf tb) → BufTy
  | .hbm, ⟨0, _⟩ => ⟨S1024x4096, .fp8e5m2⟩
  | .hbm, ⟨1, _⟩ => ⟨S1024x4096, .fp8e4m3⟩
  | .hbm, ⟨2, _⟩ => ⟨S5504x4096, .bf16⟩
  | .hbm, ⟨3, _⟩ => ⟨S1024x5504, .f32⟩
  | .hbm, ⟨4, _⟩ => ⟨S1024x5504, .f32⟩
  | .hbm, ⟨5, _⟩ => ⟨S1x5504, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S5504x4096, .fp8e4m3⟩
  | .hbm, ⟨12, _⟩ => ⟨S1024x5504, .fp8e5m2⟩
  | .hbm, ⟨13, _⟩ => ⟨S1024x5504, .fp8e5m2⟩
  | .hbm, ⟨14, _⟩ => ⟨S4096x5504, .bf16⟩
  | .hbm, ⟨15, _⟩ => ⟨S4096x5504, .bf16⟩
  | .hbm, ⟨16, _⟩ => ⟨S1x1, .f32⟩
  | .hbm, ⟨17, _⟩ => ⟨S1x1, .f32⟩
  | .local _ .vmem, ⟨0, _⟩ => ⟨S1024x4096, .fp8e5m2⟩
  | .local _ .vmem, ⟨1, _⟩ => ⟨S1024x4096, .fp8e4m3⟩
  | .local _ .vmem, ⟨2, _⟩ => ⟨S5504x4096, .bf16⟩
  | .local _ .vmem, ⟨3, _⟩ => ⟨S1024x5504, .f32⟩
  | .local _ .vmem, ⟨4, _⟩ => ⟨S1024x5504, .f32⟩
  | .local _ .vmem, ⟨5, _⟩ => ⟨S1x5504, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S5504x4096, .fp8e4m3⟩
  | .local _ .vmem, ⟨12, _⟩ => ⟨S1024x5504, .fp8e5m2⟩
  | .local _ .vmem, ⟨13, _⟩ => ⟨S1024x5504, .fp8e5m2⟩
  | .local _ .vmem, ⟨14, _⟩ => ⟨S4096x5504, .bf16⟩
  | .local _ .vmem, ⟨15, _⟩ => ⟨S4096x5504, .bf16⟩
  | .local _ .vmem, ⟨16, _⟩ => ⟨S1x1, .f32⟩
  | .local _ .vmem, ⟨17, _⟩ => ⟨S1x1, .f32⟩
  | _, _ => ⟨S1024x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S1024x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5504x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x5504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x5504 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5504 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5504x4096 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x5504 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x5504 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x5504 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4096x5504 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.OutValue.lean ====
/- What the call `out` leaves in its three result arrays: the arrays its reference writes. -/
module

public import proofs.«01_k».proof.Proof.Gen.OutIdeal.Value
public import proofs.«01_k».proof.Proof.Gen.OutReferenceIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Result

open Cert.OutIdeal Cert.OutIdeal.Gen

variable (m : (ℓ : Loc nD τ sig) → Buf (Elt Ideal) ℓ)

/-- Which block of its array every window has at point `t`. -/
theorem idx : ∀ t : Fin cfg0.N, win0_0.index t = ![0, 0] ∧ win0_1.index t = ![0, 0] ∧ win0_2.index t = ![0, t.val]
    ∧ win0_3.index t = ![0, t.val] ∧ win0_4.index t = ![0, 0] ∧ win0_5.index t = ![t.val, 0]
    ∧ win0_6.index t = ![t.val, 0] ∧ win0_7.index t = ![0, 0] ∧ win0_8.index t = ![t.val, 0]
    ∧ win0_9.index t = ![t.val, 0] ∧ win0_10.index t = ![0, 0] ∧ win0_11.index t = ![0, 0]
    ∧ win0_12.index t = ![0, t.val] ∧ win0_13.index t = ![0, t.val] ∧ win0_14.index t = ![t.val, 0] :=
  (by decide +kernel : ∀ t : Fin grid0.N, _)

/-- The array of `y` after the call. -/
theorem final12 (c : Dev nD) : (dats m 0 c).arrAt 12 (cfgs 0).N
    = Cert.OutReferenceIdeal.Gen.k0_pay2 (F := Ideal) (m ((c : Thread nD τ).loc main_arg0)) (m ((c : Thread nD τ).loc main_arg1))
        (m ((c : Thread nD τ).loc main_arg9)) := by
  refine (dats m 0 c).arrAt_eq_of_covers 12 _ (by decide +kernel) fun t _ y => ?_
  blk_simp
  rw [after0_12]
  unfold outsAt0
  frame_out
  pointwise [k0_pay2, Cert.OutReferenceIdeal.Gen.k0_pay2]
  blk_point [iblk, V, idx t]

/-- The array of `dw_down` after the call. -/
theorem final13 (c : Dev nD) : (dats m 0 c).arrAt 13 (cfgs 0).N
    = Cert.OutReferenceIdeal.Gen.k0_pay3 (F := Ideal) (m ((c : Thread nD τ).loc main_arg0)) (m ((c : Thread nD τ).loc main_arg2))
        (m ((c : Thread nD τ).loc main_arg10)) (m ((c : Thread nD τ).loc main_arg3)) := by
  refine (dats m 0 c).arrAt_eq_of_covers 13 _ (by decide +kernel) fun t _ y => ?_
  blk_simp
  rw [after0_13]
  unfold outsAt0
  frame_out
  canon_tiles x h
  all_goals (pointwise [k0_pay3, k0_pay4, k0_pay5, k0_pay6, Cert.OutReferenceIdeal.Gen.k0_pay3]; blk_point [iblk, V, idx t])

/-- What one tile of lanes of `dx` holds at a point, at any index of the array it sits at. -/
theorem tile14 (c : Dev nD) (t : Fin cfg0.N) (x : S64x128.Idx) (b : Fin 4096) (j : S1024x4096.Idx)
    (hj0 : (j 0 : ℕ) = t.val * 64 + (x 0 : ℕ)) (hj1 : (j 1 : ℕ) = (b : ℕ)) :
    (show EReal from iblk m c 8 t x) * ((show EReal from iblk m c 5 t (ix2 (x 0) b)) * (show EReal from iblk m c 7 t (ix2 0 b))
        - (show EReal from iblk m c 6 t (ix2 (x 0) b)) * (show EReal from iblk m c 8 t x) * (show EReal from iblk m c 9 t x))
      = Cert.OutReferenceIdeal.Gen.k0_pay1 (F := Ideal)
        (Cert.OutReferenceIdeal.Gen.k0_pay4 (F := Ideal) (m ((c : Thread nD τ).loc main_arg5)) (m ((c : Thread nD τ).loc main_arg7)))
        (Cert.OutReferenceIdeal.Gen.k0_pay5 (F := Ideal) (m ((c : Thread nD τ).loc main_arg4)) (m ((c : Thread nD τ).loc main_arg6)))
        (m ((c : Thread nD τ).loc main_arg7)) (m ((c : Thread nD τ).loc main_arg8)) j := by
  pointwise [Cert.OutReferenceIdeal.Gen.k0_pay1, Cert.OutReferenceIdeal.Gen.k0_pay4, Cert.OutReferenceIdeal.Gen.k0_pay5]
  blk_point [iblk, V, idx t]

set_option maxHeartbeats 2000000 in
/-- The array of `dx` after the call. -/
theorem final14 (c : Dev nD) : (dats m 0 c).arrAt 14 (cfgs 0).N
    = Cert.OutReferenceIdeal.Gen.k0_pay1 (F := Ideal)
        (Cert.OutReferenceIdeal.Gen.k0_pay4 (F := Ideal) (m ((c : Thread nD τ).loc main_arg5)) (m ((c : Thread nD τ).loc main_arg7)))
        (Cert.OutReferenceIdeal.Gen.k0_pay5 (F := Ideal) (m ((c : Thread nD τ).loc main_arg4)) (m ((c : Thread nD τ).loc main_arg6)))
        (m ((c : Thread nD τ).loc main_arg7)) (m ((c : Thread nD τ).loc main_arg8)) := by
  refine (dats m 0 c).arrAt_eq_of_covers 14 _ (by decide +kernel) fun t _ y => ?_
  blk_simp
  rw [after0_14]
  unfold outsAt0
  frame_out
  canon_tiles x h
  all_goals (open_payloads; pointwise; refine tile14 m c t x _ _ ?_ ?_ <;> (blk_simp [idx t] <;> try omega))

end Cert.OutIdeal.Result

end
-- ==== Proof.DxnValue.lean ====
/- What the call `dxn` leaves in its three result arrays: the arrays its reference writes. -/
module

public import proofs.«01_k».proof.Proof.Gen.DxnIdeal.Value
public import proofs.«01_k».proof.Proof.Gen.DxnReferenceIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxnIdeal.Result

open Cert.DxnIdeal Cert.DxnIdeal.Gen

variable (m : (ℓ : Loc nD τ sig) → Buf (Elt Ideal) ℓ)

/-- Which block of its array every window has at point `t`. -/
theorem idx : ∀ t : Fin cfg0.N, win0_0.index t = ![0, 0] ∧ win0_1.index t = ![0, 0] ∧ win0_2.index t = ![t.val, 0]
    ∧ win0_3.index t = ![t.val, 0] ∧ win0_4.index t = ![0, t.val] ∧ win0_5.index t = ![0, 0]
    ∧ win0_6.index t = ![0, t.val] ∧ win0_7.index t = ![0, 0] ∧ win0_8.index t = ![0, 0]
    ∧ win0_9.index t = ![0, 0] ∧ win0_10.index t = ![0, 0] ∧ win0_11.index t = ![0, t.val]
    ∧ win0_12.index t = ![0, t.val] ∧ win0_13.index t = ![0, 0] ∧ t.val < 16 :=
  (by decide +kernel : ∀ t : Fin grid0.N, _)

/-- The array of `dxn` after the call. -/
theorem final11 (c : Dev nD) : (dats m 0 c).arrAt 11 (cfgs 0).N
    = Cert.DxnReferenceIdeal.Gen.k0_pay2 (F := Ideal) (m ((c : Thread nD τ).loc main_arg0)) (m ((c : Thread nD τ).loc main_arg2))
        (m ((c : Thread nD τ).loc main_arg7)) (m ((c : Thread nD τ).loc main_arg9)) (m ((c : Thread nD τ).loc main_arg1))
        (m ((c : Thread nD τ).loc main_arg3)) (m ((c : Thread nD τ).loc main_arg8)) (m ((c : Thread nD τ).loc main_arg10)) := by
  refine (dats m 0 c).arrAt_eq_of_covers 11 _ (by decide +kernel) fun t _ y => ?_
  blk_simp
  rw [after0_11]
  by_cases h0 : t.val % 16 = 0
  · rw [outsAt0_A m c t h0 (by omega)]
    frame_out
    pointwise [k0_pay7, Cert.DxnReferenceIdeal.Gen.k0_pay2]
    blk_point [iblk, V, idx t]
  · by_cases h1 : t.val % 16 = 15
    · rw [outsAt0_C m c t h0 h1]
      frame_out
      pointwise [k0_pay7, Cert.DxnReferenceIdeal.Gen.k0_pay2]
      blk_point [iblk, V, idx t]
    · rw [outsAt0_B m c t h0 h1]
      frame_out
      pointwise [k0_pay7, Cert.DxnReferenceIdeal.Gen.k0_pay2]
      blk_point [iblk, V, idx t]

/-- The array of `dgamma` after the call. -/
theorem final12 (c : Dev nD) : (dats m 0 c).arrAt 12 (cfgs 0).N
    = Cert.DxnReferenceIdeal.Gen.k0_pay4 (F := Ideal) (m ((c : Thread nD τ).loc main_arg0)) (m ((c : Thread nD τ).loc main_arg2))
        (m ((c : Thread nD τ).loc main_arg7)) (m ((c : Thread nD τ).loc main_arg9)) (m ((c : Thread nD τ).loc main_arg1))
        (m ((c : Thread nD τ).loc main_arg3)) (m ((c : Thread nD τ).loc main_arg8)) (m ((c : Thread nD τ).loc main_arg10))
        (m ((c : Thread nD τ).loc main_arg4)) (m ((c : Thread nD τ).loc main_arg5)) := by
  refine (dats m 0 c).arrAt_eq_of_covers 12 _ (by decide +kernel) fun t _ y => ?_
  blk_simp
  rw [after0_12]
  by_cases h0 : t.val % 16 = 0
  · rw [outsAt0_A m c t h0 (by omega)]
    frame_out
    canon_tiles x h
    all_goals (pointwise [k0_pay1, k0_pay2, k0_pay3, k0_pay7, k0_pay8, k0_pay9, Cert.DxnReferenceIdeal.Gen.k0_pay4, Cert.DxnReferenceIdeal.Gen.k0_pay2, Cert.DxnReferenceIdeal.Gen.k0_pay3]; blk_point [iblk, V, idx t])
  · by_cases h1 : t.val % 16 = 15
    · rw [outsAt0_C m c t h0 h1]
      frame_out
      canon_tiles x h
      all_goals (pointwise [k0_pay1, k0_pay2, k0_pay3, k0_pay7, k0_pay8, k0_pay9, Cert.DxnReferenceIdeal.Gen.k0_pay4, Cert.DxnReferenceIdeal.Gen.k0_pay2, Cert.DxnReferenceIdeal.Gen.k0_pay3]; blk_point [iblk, V, idx t])
    · rw [outsAt0_B m c t h0 h1]
      frame_out
      canon_tiles x h
      all_goals (pointwise [k0_pay1, k0_pay2, k0_pay3, k0_pay7, k0_pay8, k0_pay9, Cert.DxnReferenceIdeal.Gen.k0_pay4, Cert.DxnReferenceIdeal.Gen.k0_pay2, Cert.DxnReferenceIdeal.Gen.k0_pay3]; blk_point [iblk, V, idx t])

end Cert.DxnIdeal.Result

end
-- ==== Proof.DxnDot.lean ====
/- What the call `dxn` leaves in the array of `dx_dot`: the row sums it accumulates over its points and lanes, and the
   reference's mean over a whole row. -/
module

public import proofs.«01_k».proof.Proof.DxnValue
public import proofs.«01_k».proof.Proof.Gen.DxnReferenceIdeal.Value
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxnIdeal.Result

open Cert.DxnIdeal Cert.DxnIdeal.Gen

variable (m : (ℓ : Loc nD τ sig) → Buf (Elt Ideal) ℓ)

/-- One summand of `dx_dot`: `dxn * gamma * xhat` at a token and a column. -/
def summand (c : Dev nD) (p : Fin 1024) (q : Fin 4096) : EReal :=
  mulf (mulf (Cert.DxnReferenceIdeal.Gen.k0_pay2 (F := Ideal) (m ((c : Thread nD τ).loc main_arg0)) (m ((c : Thread nD τ).loc main_arg2))
        (m ((c : Thread nD τ).loc main_arg7)) (m ((c : Thread nD τ).loc main_arg9)) (m ((c : Thread nD τ).loc main_arg1))
        (m ((c : Thread nD τ).loc main_arg3)) (m ((c : Thread nD τ).loc main_arg8)) (m ((c : Thread nD τ).loc main_arg10)))
      (Cert.DxnReferenceIdeal.Gen.k0_pay5 (F := Ideal) (m ((c : Thread nD τ).loc main_arg6))))
    (Cert.DxnReferenceIdeal.Gen.k0_pay3 (F := Ideal) (m ((c : Thread nD τ).loc main_arg4)) (m ((c : Thread nD τ).loc main_arg5))) (ix2 p q)

/-- What the body adds for one column of its block at a point, as it writes it. -/
def part (c : Dev nD) (t : Fin cfg0.N) (j : S1024x128.Idx) (b : Fin 256) : EReal :=
  ((∑ x, (show EReal from iblk m c 0 t (ix2 (j 0) x)) * (show EReal from iblk m c 2 t (ix2 b x)))
        * ((show EReal from iblk m c 7 t (ix2 0 0)) * (show EReal from iblk m c 9 t (ix2 0 0)))
      + (∑ x, (show EReal from iblk m c 1 t (ix2 (j 0) x)) * (show EReal from iblk m c 3 t (ix2 b x)))
        * ((show EReal from iblk m c 8 t (ix2 0 0)) * (show EReal from iblk m c 10 t (ix2 0 0))))
    * ((show EReal from iblk m c 4 t (ix2 (j 0) b)) * (show EReal from iblk m c 5 t j)) * (show EReal from iblk m c 6 t (ix2 0 b))

/-- It is the reference's summand, the last two factors in the other order. -/
theorem part_eq (c : Dev nD) (t : Fin cfg0.N) (j : S1024x128.Idx) (b : Fin 256) (p : Fin 1024) (q : Fin 4096)
    (hp : (p : ℕ) = (j 0 : ℕ)) (hq : (q : ℕ) = t.val * 256 + (b : ℕ)) : part m c t j b = summand m c p q := by
  unfold part summand
  rw [mul_right_comm]
  pointwise [Cert.DxnReferenceIdeal.Gen.k0_pay2, Cert.DxnReferenceIdeal.Gen.k0_pay3, Cert.DxnReferenceIdeal.Gen.k0_pay5]
  blk_point [iblk, V, idx t]

/-- The two columns one lane of the accumulator receives at a point. -/
def term (c : Dev nD) (t : Fin cfg0.N) (j : S1024x128.Idx) : EReal :=
  part m c t j ⟨(j 1 : ℕ), lt_of_lt_of_le (j 1).isLt (by decide)⟩
    + part m c t j ⟨128 + (j 1 : ℕ), by have h : (j 1 : ℕ) < 128 := (j 1).isLt; omega⟩

/-- The accumulator after the first point. -/
theorem scratchA (c : Dev nD) (t : Fin cfg0.N) (h0 : t.val % 16 = 0) (j : S1024x128.Idx) :
    (outsAt0 m c t.val t.isLt).2.2.2 j = 0 + term m c t j := by
  rw [outsAt0_A m c t h0 (by omega), zero_add]
  frame_out
  pointwise [k0_pay1, k0_pay2, k0_pay3, k0_pay4, k0_pay6, k0_pay7, k0_pay8, k0_pay9]
  rfl

/-- The accumulator after any later point: what it held and this point's columns. -/
theorem scratchS (c : Dev nD) (t : Fin cfg0.N) (h0 : ¬t.val % 16 = 0) (j : S1024x128.Idx) :
    (outsAt0 m c t.val t.isLt).2.2.2 j
      = (outsAt0 m c (t.val - 1) (Nat.lt_of_le_of_lt (Nat.sub_le _ _) t.isLt)).2.2.2 j + term m c t j := by
  by_cases h1 : t.val % 16 = 15
  · rw [outsAt0_C m c t h0 h1]
    frame_out
    pointwise [k0_pay1, k0_pay2, k0_pay3, k0_pay4, k0_pay6, k0_pay7, k0_pay8, k0_pay9]
    refine (congrArg (fun z : EReal => z + _ + _) (congrFun (read_unread_whole (Val := Elt Ideal) cc0_scratch0 _ _) j)).trans (add_assoc _ _ _)
  · rw [outsAt0_B m c t h0 h1]
    frame_out
    pointwise [k0_pay1, k0_pay2, k0_pay3, k0_pay4, k0_pay6, k0_pay7, k0_pay8, k0_pay9]
    refine (congrArg (fun z : EReal => z + _ + _) (congrFun (read_unread_whole (Val := Elt Ideal) cc0_scratch0 _ _) j)).trans (add_assoc _ _ _)

/-- The accumulator after the last point. -/
theorem scratch_last (c : Dev nD) (t : Fin cfg0.N) (ht : t.val + 1 = cfg0.N) (j : S1024x128.Idx) :
    (outsAt0 m c t.val t.isLt).2.2.2 j = (0 : EReal) + ∑ p : Fin cfg0.N, term m c p j :=
  Pipeline.eq_sum_fin_of_reset_step_apply_last (M := EReal) (fun n h => (outsAt0 m c n h).2.2.2) 16 (fun _ => 0) (term m c)
    (fun t h j => scratchA m c t h j) (fun t h j => scratchS m c t h j) (le_of_eq N_0) t ht j

/-- What the last point writes is the row sum of the accumulator it leaves. -/
theorem outC (c : Dev nD) (t : Fin cfg0.N) (h0 : ¬t.val % 16 = 0) (h1 : t.val % 16 = 15) (j : S1024x128.Idx) :
    (outsAt0 m c t.val t.isLt).2.2.1 j = k0_pay5 (F := Ideal) (outsAt0 m c t.val t.isLt).2.2.2 j := by
  rw [outsAt0_C m c t h0 h1]
  frame_out

/-- A row of the array, taken point by point, two tiles of lanes at a time. -/
theorem sum_tiles (f : Fin 4096 → EReal) :
    ∑ q, f q = ∑ l : Fin 128, ∑ t : Fin 16, (f ⟨t.val * 256 + l.val, by omega⟩ + f ⟨t.val * 256 + (128 + l.val), by omega⟩) := by
  rw [Fin.sum_univ_tiles 16 256 rfl f, Finset.sum_comm (s := (Finset.univ : Finset (Fin 128)))]
  refine Finset.sum_congr rfl fun t _ => ?_
  rw [Fin.sum_univ_two_halves 128 128 rfl, ← Finset.sum_add_distrib]

/-- The single-precision pattern of 1/4096. -/
theorem ofBits_inv_4096 : Ideal.ofBits .f32 0x39800000#32 = (((1 : ℝ) / 4096 : ℝ) : EReal) := by
  simp [Ideal.ofBits, Ideal.ieee, -EReal.coe_mul]; norm_num

/-- The single-precision pattern of 4096. -/
theorem ofBits_4096 : Ideal.ofBits .f32 0x45800000#32 = ((4096 : ℝ) : EReal) := by
  simp [Ideal.ofBits, Ideal.ieee, -EReal.coe_mul]; norm_num

/-- Two sums over as many points. -/
theorem sum_points {N M : ℕ} (h : N = M) (f : Fin N → EReal) (g : Fin M → EReal)
    (hfg : ∀ (i : Fin N) (k : Fin M), (i : ℕ) = (k : ℕ) → f i = g k) : ∑ i, f i = ∑ k, g k := by
  subst h; exact Finset.sum_congr rfl fun i _ => hfg i i rfl

/-- What the accumulator holds at a point's two columns of a lane. -/
theorem term_eq (c : Dev nD) (t : Fin cfg0.N) (a : Fin 1024) (l : Fin 128) (k : Fin 16) (h : (t : ℕ) = (k : ℕ)) :
    term m c t (ix2 a l) = summand m c a ⟨k.val * 256 + l.val, by omega⟩ + summand m c a ⟨k.val * 256 + (128 + l.val), by omega⟩ := by
  refine congrArg₂ (· + ·) (part_eq m c t _ _ _ _ rfl ?_) (part_eq m c t _ _ _ _ rfl ?_) <;> rw [h] <;> rfl

/-- The whole accumulator row is the reference's row of summands. -/
theorem row_eq (c : Dev nD) (a : Fin 1024) :
    ∑ q, summand m c a q = ∑ l : Fin 128, ∑ p : Fin cfg0.N, term m c p (ix2 a l) := by
  rw [sum_tiles]
  refine Finset.sum_congr rfl fun l _ => ?_
  exact (sum_points N_0 (fun p => term m c p (ix2 a l)) _ fun t k h => term_eq m c t a l k h).symm

set_option maxHeartbeats 1000000 in
/-- The row sums of the accumulator, over 4096, are the reference's means. -/
theorem dot_eq (c : Dev nD) (a : Fin 1024) (j : S1024x128.Idx) (hj : (j 0 : ℕ) = a.val) :
    (∑ l : Fin 128, ∑ p : Fin cfg0.N, term m c p (ix2 a l)) * Ideal.ofBits .f32 0x39800000#32
      = Cert.DxnReferenceIdeal.Gen.k0_pay1 (F := Ideal)
        (Cert.DxnReferenceIdeal.Gen.k0_pay2 (F := Ideal) (m ((c : Thread nD τ).loc main_arg0)) (m ((c : Thread nD τ).loc main_arg2))
        (m ((c : Thread nD τ).loc main_arg7)) (m ((c : Thread nD τ).loc main_arg9)) (m ((c : Thread nD τ).loc main_arg1))
        (m ((c : Thread nD τ).loc main_arg3)) (m ((c : Thread nD τ).loc main_arg8)) (m ((c : Thread nD τ).loc main_arg10)))
        (Cert.DxnReferenceIdeal.Gen.k0_pay3 (F := Ideal) (m ((c : Thread nD τ).loc main_arg4)) (m ((c : Thread nD τ).loc main_arg5)))
        (Cert.DxnReferenceIdeal.Gen.k0_pay5 (F := Ideal) (m ((c : Thread nD τ).loc main_arg6))) j := by
  rw [← row_eq, ofBits_inv_4096, ← Ideal.div_coe (by norm_num), ← ofBits_4096]
  have ha : a = j 0 := Fin.ext hj.symm
  rw [ha]
  pointwise [Cert.DxnReferenceIdeal.Gen.k0_pay1]
  exact congrArg (fun z : EReal => Ideal.div z _) (Finset.sum_congr rfl fun q _ => by pointwise [summand])

set_option maxHeartbeats 1000000 in
/-- The array of `dx_dot` after the call. -/
theorem final13 (c : Dev nD) : (dats m 0 c).arrAt 13 (cfgs 0).N
    = Cert.DxnReferenceIdeal.Gen.k0_pay1 (F := Ideal)
        (Cert.DxnReferenceIdeal.Gen.k0_pay2 (F := Ideal) (m ((c : Thread nD τ).loc main_arg0)) (m ((c : Thread nD τ).loc main_arg2))
        (m ((c : Thread nD τ).loc main_arg7)) (m ((c : Thread nD τ).loc main_arg9)) (m ((c : Thread nD τ).loc main_arg1))
        (m ((c : Thread nD τ).loc main_arg3)) (m ((c : Thread nD τ).loc main_arg8)) (m ((c : Thread nD τ).loc main_arg10)))
        (Cert.DxnReferenceIdeal.Gen.k0_pay3 (F := Ideal) (m ((c : Thread nD τ).loc main_arg4)) (m ((c : Thread nD τ).loc main_arg5)))
        (Cert.DxnReferenceIdeal.Gen.k0_pay5 (F := Ideal) (m ((c : Thread nD τ).loc main_arg6))) := by
  refine (dats m 0 c).arrAt_eq_of_covers 13 _ (by decide +kernel) fun t hf y => ?_
  have h1 : t.val % 16 = 15 := (flush0_13 t).mp hf
  have hN : t.val < 16 := lt_of_lt_of_eq t.isLt N_0
  have hlast : t.val + 1 = cfg0.N := by rw [show cfg0.N = 16 from N_0]; omega
  blk_simp
  rw [after0_13]
  refine (outC m c t (by omega) h1 _).trans ?_
  have hs : (outsAt0 m c t.val t.isLt).2.2.2 = fun j => ∑ p : Fin cfg0.N, term m c p j :=
    funext fun j => (scratch_last m c t hlast j).trans (zero_add _)
  rw [hs]
  pointwise [k0_pay5]
  refine dot_eq m c _ _ ?_
  blk_simp [idx t]

end Cert.DxnIdeal.Result

end
-- ==== Proof.MaxFold.lean ====
/- Maxima taken piece by piece: a maximum is at most `b` exactly when every value it is over is at most `b`. -/
module

public import Idealize.ShloMosaic.Lib.Pipeline.ValueKit
public import Idealize.ShloMosaic.Lib.Pointwise

@[expose] public section

noncomputable section

open Idealize.ShloMosaic

namespace Cert.MaxFold

/-- The single-precision pattern of minus infinity. -/
theorem ofBits_neg_inf : Ideal.ofBits .f32 0xFF800000#32 = (⊥ : EReal) := by
  simp [Ideal.ofBits, Ideal.ieee]

/-- A fold of `max` from minus infinity is at most `b` exactly when every value is. -/
theorem fold_le {α : Type*} (s : Finset α) (f : α → EReal) (b : EReal) :
    Finset.fold max (Ideal.ofBits .f32 0xFF800000#32) f s ≤ b ↔ ∀ x ∈ s, f x ≤ b := by
  rw [ofBits_neg_inf, Finset.fold_max_le]
  exact and_iff_right bot_le

/-- An absolute value is not negative. -/
theorem absf_nonneg (x : EReal) : 0 ≤ FloatOps.absf (F := Ideal) (φ := .f32) x := by
  rw [Ideal.absf_def]
  rcases le_total 0 x with h | h
  · exact le_max_of_le_left h
  · exact le_max_of_le_right (EReal.neg_nonneg.mpr h)

/-- A running maximum that starts over zero: at most `b` exactly when zero is and every point's values are. -/
theorem le_of_reset_step {N : ℕ} {ι : Type*} (f : (n : ℕ) → n < N → ι → EReal) (J : ℕ) (P : Fin N → ι → EReal → Prop)
    (h0 : ∀ t : Fin N, t.val % J = 0 → ∀ i b, f t.val t.isLt i ≤ b ↔ 0 ≤ b ∧ P t i b)
    (hs : ∀ t : Fin N, ¬t.val % J = 0 → ∀ i b,
      f t.val t.isLt i ≤ b ↔ f (t.val - 1) (Nat.lt_of_le_of_lt (Nat.sub_le _ _) t.isLt) i ≤ b ∧ P t i b)
    (hN : N ≤ J) : ∀ (t : Fin N) (i : ι) (b : EReal), f t.val t.isLt i ≤ b ↔ 0 ≤ b ∧ ∀ s : Fin N, s.val ≤ t.val → P s i b := by
  suffices h : ∀ (n : ℕ) (hn : n < N) (i : ι) (b : EReal), f n hn i ≤ b ↔ 0 ≤ b ∧ ∀ s : Fin N, s.val ≤ n → P s i b from
    fun t i b => h t.val t.isLt i b
  intro n
  induction n with
  | zero =>
    intro hn i b
    rw [h0 ⟨0, hn⟩ (Nat.zero_mod _) i b]
    refine and_congr Iff.rfl ⟨fun h s hs => ?_, fun h => h _ le_rfl⟩
    have e : s = ⟨0, hn⟩ := Fin.ext (Nat.le_zero.mp hs)
    rw [e]; exact h
  | succ n ih =>
    intro hn i b
    have hm : ¬(n + 1) % J = 0 := by rw [Nat.mod_eq_of_lt (lt_of_lt_of_le hn hN)]; omega
    rw [hs ⟨n + 1, hn⟩ hm i b]
    refine (and_congr (ih _ i b) Iff.rfl).trans ?_
    rw [and_assoc]
    refine and_congr Iff.rfl ⟨fun h s hs => ?_, fun h => ⟨fun s hs => h s (by omega), h _ le_rfl⟩⟩
    rcases Nat.lt_or_ge s.val (n + 1) with hlt | hge
    · exact h.1 s (by omega)
    · have e : s = ⟨n + 1, hn⟩ := Fin.ext (le_antisymm hs hge)
      rw [e]; exact h.2

/-- The same at the last point: every point's values. -/
theorem le_of_reset_step_last {N : ℕ} {ι : Type*} (f : (n : ℕ) → n < N → ι → EReal) (J : ℕ) (P : Fin N → ι → EReal → Prop)
    (h0 : ∀ t : Fin N, t.val % J = 0 → ∀ i b, f t.val t.isLt i ≤ b ↔ 0 ≤ b ∧ P t i b)
    (hs : ∀ t : Fin N, ¬t.val % J = 0 → ∀ i b,
      f t.val t.isLt i ≤ b ↔ f (t.val - 1) (Nat.lt_of_le_of_lt (Nat.sub_le _ _) t.isLt) i ≤ b ∧ P t i b)
    (hN : N ≤ J) (t : Fin N) (ht : t.val + 1 = N) (i : ι) (b : EReal) :
    f t.val t.isLt i ≤ b ↔ 0 ≤ b ∧ ∀ s : Fin N, P s i b :=
  (le_of_reset_step f J P h0 hs hN t i b).trans
    (and_congr Iff.rfl ⟨fun h s => h s (by have := s.isLt; omega), fun h s _ => h s⟩)

end Cert.MaxFold

end
-- ==== Proof.RowsMax.lean ====
/- What the running maxima of the call `rows` take in at one point. -/
module

public import proofs.«01_k».proof.Proof.Gen.RowsIdeal.Value
public import proofs.«01_k».proof.Proof.Gen.RowsReferenceIdeal.Value
public import proofs.«01_k».proof.Proof.MaxFold
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RowsIdeal.Result

open Cert.RowsIdeal Cert.RowsIdeal.Gen

set_option maxHeartbeats 1000000 in
/-- The accumulator of `x_amax` after a point that found `acc` there: the absolute values of its block's rows that fall on
    the sublane and columns that fall on the lane. -/
theorem xmax_le (acc : FVec Ideal S8x128 .f32) (v : FVec Ideal S128x4096 .f32) (s : Fin 8) (l : Fin 128) (b : EReal) :
    k0_pay14 (F := Ideal) acc (k0_pay11 v) (k0_pay12 v) (k0_pay13 v) (ix2 s l) ≤ b
      ↔ acc (ix2 s l) ≤ b ∧ ∀ (k : Fin 16) (q : Fin 32),
          FloatOps.absf (F := Ideal) (φ := .f32) (v (ix2 ⟨k.val * 8 + s.val, by omega⟩ ⟨q.val * 128 + l.val, by omega⟩)) ≤ b := by
  pointwise [k0_pay11, k0_pay12, k0_pay13, k0_pay14]
  simp only [max_le_iff, MaxFold.fold_le, Finset.mem_univ, forall_true_left]
  refine and_congr Iff.rfl ?_
  simp only [and_assoc]
  refine ⟨?_, fun h => ⟨fun k => by simpa using h k ⟨0, by decide⟩, fun k => h k ⟨1, by decide⟩, fun k => h k ⟨2, by decide⟩, fun k => h k ⟨3, by decide⟩, fun k => h k ⟨4, by decide⟩, fun k => h k ⟨5, by decide⟩, fun k => h k ⟨6, by decide⟩, fun k => h k ⟨7, by decide⟩, fun k => h k ⟨8, by decide⟩, fun k => h k ⟨9, by decide⟩, fun k => h k ⟨10, by decide⟩, fun k => h k ⟨11, by decide⟩, fun k => h k ⟨12, by decide⟩, fun k => h k ⟨13, by decide⟩, fun k => h k ⟨14, by decide⟩, fun k => h k ⟨15, by decide⟩, fun k => h k ⟨16, by decide⟩, fun k => h k ⟨17, by decide⟩, fun k => h k ⟨18, by decide⟩, fun k => h k ⟨19, by decide⟩, fun k => h k ⟨20, by decide⟩, fun k => h k ⟨21, by decide⟩, fun k => h k ⟨22, by decide⟩, fun k => h k ⟨23, by decide⟩, fun k => h k ⟨24, by decide⟩, fun k => h k ⟨25, by decide⟩, fun k => h k ⟨26, by decide⟩, fun k => h k ⟨27, by decide⟩, fun k => h k ⟨28, by decide⟩, fun k => h k ⟨29, by decide⟩, fun k => h k ⟨30, by decide⟩, fun k => h k ⟨31, by decide⟩⟩⟩
  rintro ⟨h0, h1, h2, h3, h4, h5, h6, h7, h8, h9, h10, h11, h12, h13, h14, h15, h16, h17, h18, h19, h20, h21, h22, h23, h24, h25, h26, h27, h28, h29, h30, h31⟩ k ⟨q, hq⟩
  interval_cases q
  exacts [by simpa using h0 k, h1 k, h2 k, h3 k, h4 k, h5 k, h6 k, h7 k, h8 k, h9 k, h10 k, h11 k, h12 k, h13 k, h14 k, h15 k, h16 k, h17 k, h18 k, h19 k, h20 k, h21 k, h22 k, h23 k, h24 k, h25 k, h26 k, h27 k, h28 k, h29 k, h30 k, h31 k]

set_option maxHeartbeats 1000000 in
/-- The accumulator of `dy_amax` after a point that found `acc` there. -/
theorem ymax_le (acc : FVec Ideal S8x128 .f32) (v : FVec Ideal S128x4096 .bf16) (s : Fin 8) (l : Fin 128) (b : EReal) :
    k0_pay19 (F := Ideal) acc (k0_pay17 v) (k0_pay18 v) (ix2 s l) ≤ b
      ↔ acc (ix2 s l) ≤ b ∧ ∀ (k : Fin 16) (q : Fin 32),
          FloatOps.absf (F := Ideal) (φ := .f32) (v (ix2 ⟨k.val * 8 + s.val, by omega⟩ ⟨q.val * 128 + l.val, by omega⟩)) ≤ b := by
  pointwise [k0_pay15, k0_pay17, k0_pay18, k0_pay19]
  simp only [max_le_iff, MaxFold.fold_le, Finset.mem_univ, forall_true_left]
  refine and_congr Iff.rfl ?_
  simp only [and_assoc]
  refine ⟨?_, fun h => ⟨fun k => by simpa using h k ⟨0, by decide⟩, fun k => h k ⟨1, by decide⟩, fun k => h k ⟨2, by decide⟩, fun k => h k ⟨3, by decide⟩, fun k => h k ⟨4, by decide⟩, fun k => h k ⟨5, by decide⟩, fun k => h k ⟨6, by decide⟩, fun k => h k ⟨7, by decide⟩, fun k => h k ⟨8, by decide⟩, fun k => h k ⟨9, by decide⟩, fun k => h k ⟨10, by decide⟩, fun k => h k ⟨11, by decide⟩, fun k => h k ⟨12, by decide⟩, fun k => h k ⟨13, by decide⟩, fun k => h k ⟨14, by decide⟩, fun k => h k ⟨15, by decide⟩, fun k => h k ⟨16, by decide⟩, fun k => h k ⟨17, by decide⟩, fun k => h k ⟨18, by decide⟩, fun k => h k ⟨19, by decide⟩, fun k => h k ⟨20, by decide⟩, fun k => h k ⟨21, by decide⟩, fun k => h k ⟨22, by decide⟩, fun k => h k ⟨23, by decide⟩, fun k => h k ⟨24, by decide⟩, fun k => h k ⟨25, by decide⟩, fun k => h k ⟨26, by decide⟩, fun k => h k ⟨27, by decide⟩, fun k => h k ⟨28, by decide⟩, fun k => h k ⟨29, by decide⟩, fun k => h k ⟨30, by decide⟩, fun k => h k ⟨31, by decide⟩⟩⟩
  rintro ⟨h0, h1, h2, h3, h4, h5, h6, h7, h8, h9, h10, h11, h12, h13, h14, h15, h16, h17, h18, h19, h20, h21, h22, h23, h24, h25, h26, h27, h28, h29, h30, h31⟩ k ⟨q, hq⟩
  interval_cases q
  exacts [by simpa using h0 k, h1 k, h2 k, h3 k, h4 k, h5 k, h6 k, h7 k, h8 k, h9 k, h10 k, h11 k, h12 k, h13 k, h14 k, h15 k, h16 k, h17 k, h18 k, h19 k, h20 k, h21 k, h22 k, h23 k, h24 k, h25 k, h26 k, h27 k, h28 k, h29 k, h30 k, h31 k]

/-- The maximum over the accumulator of `x_amax`. -/
theorem pay1_le (v : FVec Ideal S8x128 .f32) (b : EReal) :
    k0_pay1 (F := Ideal) v ≤ b ↔ ∀ (s : Fin 8) (l : Fin 128), v (ix2 s l) ≤ b := by
  unfold k0_pay1
  pointwise
  rw [MaxFold.fold_le]
  exact ⟨fun h s l => h (s, l) (Finset.mem_univ _), fun h x _ => h x.1 x.2⟩

/-- The maximum over the accumulator of `dy_amax`. -/
theorem pay2_le (v : FVec Ideal S8x128 .f32) (b : EReal) :
    k0_pay2 (F := Ideal) v ≤ b ↔ ∀ (s : Fin 8) (l : Fin 128), v (ix2 s l) ≤ b := by
  unfold k0_pay2
  pointwise
  rw [MaxFold.fold_le]
  exact ⟨fun h s l => h (s, l) (Finset.mem_univ _), fun h x _ => h x.1 x.2⟩

/-- The reference's `x_amax`. -/
theorem ref8_le (x : FVec Ideal Cert.RowsReferenceIdeal.S1024x4096 .bf16) (g : FVec Ideal Cert.RowsReferenceIdeal.S1x4096 .f32)
    (j : Cert.RowsReferenceIdeal.S1x1.Idx) (b : EReal) :
    Cert.RowsReferenceIdeal.Gen.k0_pay8 (F := Ideal) x g j ≤ b ↔ ∀ (p : Fin 1024) (q : Fin 4096),
      FloatOps.absf (F := Ideal) (φ := .f32) (Cert.RowsReferenceIdeal.Gen.k0_pay6 (F := Ideal) x g (ix2 p q)) ≤ b := by
  pointwise [Cert.RowsReferenceIdeal.Gen.k0_pay8]
  rw [MaxFold.fold_le]
  exact ⟨fun h p q => h (p, q) (Finset.mem_univ _), fun h x _ => h x.1 x.2⟩

/-- The reference's `dy_amax`. -/
theorem ref3_le (x : FVec Ideal Cert.RowsReferenceIdeal.S1024x4096 .bf16) (j : Cert.RowsReferenceIdeal.S1x1.Idx) (b : EReal) :
    Cert.RowsReferenceIdeal.Gen.k0_pay3 (F := Ideal) x j ≤ b ↔ ∀ (p : Fin 1024) (q : Fin 4096),
      FloatOps.absf (F := Ideal) (φ := .f32) (x (ix2 p q)) ≤ b := by
  pointwise [Cert.RowsReferenceIdeal.Gen.k0_pay3, Cert.RowsReferenceIdeal.Gen.k0_pay1]
  rw [MaxFold.fold_le]
  exact ⟨fun h p q => h (p, q) (Finset.mem_univ _), fun h x _ => h x.1 x.2⟩

end Cert.RowsIdeal.Result

end
-- ==== Proof.RowsValue.lean ====
/- What the call `rows` leaves in the arrays it writes point by point: the arrays its reference writes. -/
module

public import proofs.«01_k».proof.Proof.Gen.RowsIdeal.Value
public import proofs.«01_k».proof.Proof.Gen.RowsReferenceIdeal.Value
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RowsIdeal.Result

open Cert.RowsIdeal Cert.RowsIdeal.Gen

variable (m : (ℓ : Loc nD τ sig) → Buf (Elt Ideal) ℓ)

/-- Which block of its array every window has at point `t`. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0]
    ∧ win0_6.index t = ![0, t.val] ∧ win0_7.index t = ![t.val, 0] ∧ win0_8.index t = ![t.val, 0]
    ∧ win0_9.index t = ![0, 0] ∧ win0_10.index t = ![0, 0] ∧ t.val < 8 :=
  (by decide +kernel : ∀ t : Fin grid0.N, _)

/-- The array of `xn_codes` after the call. -/
theorem final5 (c : Dev nD) : (dats m 0 c).arrAt 5 (cfgs 0).N
    = Cert.RowsReferenceIdeal.Gen.k0_pay7 (F := Ideal) (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]
  by_cases h0 : t.val % 8 = 0
  · rw [outsAt0_A m c t h0 (by omega)]
    frame_out
    pointwise [k0_pay5, k0_pay6, k0_pay7, k0_pay8, Cert.RowsReferenceIdeal.Gen.k0_pay4, Cert.RowsReferenceIdeal.Gen.k0_pay5, Cert.RowsReferenceIdeal.Gen.k0_pay6, Cert.RowsReferenceIdeal.Gen.k0_pay7]
    blk_point [iblk, V, idx t]
  · by_cases h1 : t.val % 8 = 7
    · rw [outsAt0_C m c t h0 h1]
      frame_out
      pointwise [k0_pay5, k0_pay6, k0_pay7, k0_pay8, Cert.RowsReferenceIdeal.Gen.k0_pay4, Cert.RowsReferenceIdeal.Gen.k0_pay5, Cert.RowsReferenceIdeal.Gen.k0_pay6, Cert.RowsReferenceIdeal.Gen.k0_pay7]
      blk_point [iblk, V, idx t]
    · rw [outsAt0_B m c t h0 h1]
      frame_out
      pointwise [k0_pay5, k0_pay6, k0_pay7, k0_pay8, Cert.RowsReferenceIdeal.Gen.k0_pay4, Cert.RowsReferenceIdeal.Gen.k0_pay5, Cert.RowsReferenceIdeal.Gen.k0_pay6, Cert.RowsReferenceIdeal.Gen.k0_pay7]
      blk_point [iblk, V, idx t]

/-- The array of `xn_codes, transposed` after the call. -/
theorem final6 (c : Dev nD) : (dats m 0 c).arrAt 6 (cfgs 0).N
    = Cert.RowsReferenceIdeal.Gen.k0_pay9 (F := Ideal) (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6]
  by_cases h0 : t.val % 8 = 0
  · rw [outsAt0_A m c t h0 (by omega)]
    frame_out
    pointwise [k0_pay5, k0_pay6, k0_pay7, k0_pay8, k0_pay9, Cert.RowsReferenceIdeal.Gen.k0_pay4, Cert.RowsReferenceIdeal.Gen.k0_pay5, Cert.RowsReferenceIdeal.Gen.k0_pay6, Cert.RowsReferenceIdeal.Gen.k0_pay7, Cert.RowsReferenceIdeal.Gen.k0_pay9]
    blk_point [iblk, V, idx t]
  · by_cases h1 : t.val % 8 = 7
    · rw [outsAt0_C m c t h0 h1]
      frame_out
      pointwise [k0_pay5, k0_pay6, k0_pay7, k0_pay8, k0_pay9, Cert.RowsReferenceIdeal.Gen.k0_pay4, Cert.RowsReferenceIdeal.Gen.k0_pay5, Cert.RowsReferenceIdeal.Gen.k0_pay6, Cert.RowsReferenceIdeal.Gen.k0_pay7, Cert.RowsReferenceIdeal.Gen.k0_pay9]
      blk_point [iblk, V, idx t]
    · rw [outsAt0_B m c t h0 h1]
      frame_out
      pointwise [k0_pay5, k0_pay6, k0_pay7, k0_pay8, k0_pay9, Cert.RowsReferenceIdeal.Gen.k0_pay4, Cert.RowsReferenceIdeal.Gen.k0_pay5, Cert.RowsReferenceIdeal.Gen.k0_pay6, Cert.RowsReferenceIdeal.Gen.k0_pay7, Cert.RowsReferenceIdeal.Gen.k0_pay9]
      blk_point [iblk, V, idx t]

/-- The array of `dy_codes` after the call. -/
theorem final7 (c : Dev nD) : (dats m 0 c).arrAt 7 (cfgs 0).N
    = Cert.RowsReferenceIdeal.Gen.k0_pay2 (F := Ideal) (m ((c : Thread nD τ).loc main_arg2)) (m ((c : Thread nD τ).loc main_arg4)) := by
  refine (dats m 0 c).arrAt_eq_of_covers 7 _ (by decide +kernel) fun t _ y => ?_
  blk_simp
  rw [after0_7]
  by_cases h0 : t.val % 8 = 0
  · rw [outsAt0_A m c t h0 (by omega)]
    frame_out
    pointwise [k0_pay15, k0_pay16, Cert.RowsReferenceIdeal.Gen.k0_pay1, Cert.RowsReferenceIdeal.Gen.k0_pay2]
    blk_point [iblk, V, idx t]
  · by_cases h1 : t.val % 8 = 7
    · rw [outsAt0_C m c t h0 h1]
      frame_out
      pointwise [k0_pay15, k0_pay16, Cert.RowsReferenceIdeal.Gen.k0_pay1, Cert.RowsReferenceIdeal.Gen.k0_pay2]
      blk_point [iblk, V, idx t]
    · rw [outsAt0_B m c t h0 h1]
      frame_out
      pointwise [k0_pay15, k0_pay16, Cert.RowsReferenceIdeal.Gen.k0_pay1, Cert.RowsReferenceIdeal.Gen.k0_pay2]
      blk_point [iblk, V, idx t]

/-- The array of `r along the lanes` after the call. -/
theorem final8 (c : Dev nD) : (dats m 0 c).arrAt 8 (cfgs 0).N
    = Cert.RowsReferenceIdeal.Gen.k0_pay10 (F := Ideal) (m ((c : Thread nD τ).loc main_arg0)) := by
  refine (dats m 0 c).arrAt_eq_of_covers 8 _ (by decide +kernel) fun t _ y => ?_
  blk_simp
  rw [after0_8]
  by_cases h0 : t.val % 8 = 0
  · rw [outsAt0_A m c t h0 (by omega)]
    frame_out
    pointwise [k0_pay5, k0_pay6, k0_pay10, Cert.RowsReferenceIdeal.Gen.k0_pay4, Cert.RowsReferenceIdeal.Gen.k0_pay5, Cert.RowsReferenceIdeal.Gen.k0_pay10]
    blk_point [iblk, V, idx t]
  · by_cases h1 : t.val % 8 = 7
    · rw [outsAt0_C m c t h0 h1]
      frame_out
      pointwise [k0_pay5, k0_pay6, k0_pay10, Cert.RowsReferenceIdeal.Gen.k0_pay4, Cert.RowsReferenceIdeal.Gen.k0_pay5, Cert.RowsReferenceIdeal.Gen.k0_pay10]
      blk_point [iblk, V, idx t]
    · rw [outsAt0_B m c t h0 h1]
      frame_out
      pointwise [k0_pay5, k0_pay6, k0_pay10, Cert.RowsReferenceIdeal.Gen.k0_pay4, Cert.RowsReferenceIdeal.Gen.k0_pay5, Cert.RowsReferenceIdeal.Gen.k0_pay10]
      blk_point [iblk, V, idx t]

end Cert.RowsIdeal.Result

end
-- ==== Proof.RowsAmax.lean ====
/- What the call `rows` leaves in the two cells of maxima it writes at its last point: the reference's maxima. -/
module

public import proofs.«01_k».proof.Proof.RowsMax
public import proofs.«01_k».proof.Proof.RowsValue

@[expose] public section

set_option maxRecDepth 16384

noncomputable section

open Idealize.ShloMosaic Idealize.ShloMosaic.TcCoe Idealize.SL.Sem
open Idealize.ShloMosaic.Pipeline (Dat)

namespace Cert.RowsIdeal.Result

open Cert.RowsIdeal Cert.RowsIdeal.Gen

variable (m : (ℓ : Loc nD τ sig) → Buf (Elt Ideal) ℓ)

/-- A value `x_amax` takes the maximum over. -/
def xmaxv (c : Dev nD) (p : Fin 1024) (q : Fin 4096) : EReal :=
  FloatOps.absf (F := Ideal) (φ := .f32) (Cert.RowsReferenceIdeal.Gen.k0_pay6 (F := Ideal) (m ((c : Thread nD τ).loc main_arg0)) (m ((c : Thread nD τ).loc main_arg1)) (ix2 p q))

/-- The block of a point holds its rows of them. -/
theorem xmaxv_eq (c : Dev nD) (t : Fin cfg0.N) (r : Fin 128) (q : Fin 4096) (p : Fin 1024) (hp : (p : ℕ) = t.val * 128 + r.val) :
    FloatOps.absf (F := Ideal) (φ := .f32) (k0_pay7 (F := Ideal) (iblk m c 0 t) (iblk m c 1 t) (ix2 r q)) = xmaxv m c p q := by
  unfold xmaxv
  refine congrArg (FloatOps.absf (F := Ideal) (φ := .f32)) ?_
  pointwise [k0_pay5, k0_pay6, k0_pay7, Cert.RowsReferenceIdeal.Gen.k0_pay4, Cert.RowsReferenceIdeal.Gen.k0_pay5, Cert.RowsReferenceIdeal.Gen.k0_pay6]
  blk_point [iblk, V, idx t]

/-- What a point's part of the accumulator of `x_amax` being at most `b` says. -/
def xmaxP (c : Dev nD) (t : Fin cfg0.N) (i : Fin 8 × Fin 128) (b : EReal) : Prop :=
  ∀ (k : Fin 16) (q : Fin 32), FloatOps.absf (F := Ideal) (φ := .f32)
    (k0_pay7 (F := Ideal) (iblk m c 0 t) (iblk m c 1 t) (ix2 ⟨k.val * 8 + i.1.val, by omega⟩ ⟨q.val * 128 + i.2.val, by omega⟩)) ≤ b

/-- The accumulator of `x_amax` after the first point. -/
theorem xmaxA (c : Dev nD) (t : Fin cfg0.N) (h0 : t.val % 8 = 0) (i : Fin 8 × Fin 128) (b : EReal) :
    (outsAt0 m c t.val t.isLt).2.2.2.2.2.2.1 (ix2 i.1 i.2) ≤ b ↔ 0 ≤ b ∧ xmaxP m c t i b := by
  rw [outsAt0_A m c t h0 (by omega)]
  frame_out
  refine (xmax_le _ _ i.1 i.2 b).trans (and_congr ?_ Iff.rfl)
  pointwise [k0_pay3, k0_pay4]

/-- The accumulator of `x_amax` after any later point. -/
theorem xmaxS (c : Dev nD) (t : Fin cfg0.N) (h0 : ¬t.val % 8 = 0) (i : Fin 8 × Fin 128) (b : EReal) :
    (outsAt0 m c t.val t.isLt).2.2.2.2.2.2.1 (ix2 i.1 i.2) ≤ b
      ↔ (outsAt0 m c (t.val - 1) (Nat.lt_of_le_of_lt (Nat.sub_le _ _) t.isLt)).2.2.2.2.2.2.1 (ix2 i.1 i.2) ≤ b ∧ xmaxP m c t i b := by
  by_cases h1 : t.val % 8 = 7
  · rw [outsAt0_C m c t h0 h1]
    frame_out
    refine (xmax_le _ _ i.1 i.2 b).trans (and_congr ?_ Iff.rfl)
    exact iff_of_eq (congrArg (fun z : EReal => z ≤ b) (congrFun (read_unread_whole (Val := Elt Ideal) cc0_scratch0 _ _) (ix2 i.1 i.2)))
  · rw [outsAt0_B m c t h0 h1]
    frame_out
    refine (xmax_le _ _ i.1 i.2 b).trans (and_congr ?_ Iff.rfl)
    exact iff_of_eq (congrArg (fun z : EReal => z ≤ b) (congrFun (read_unread_whole (Val := Elt Ideal) cc0_scratch0 _ _) (ix2 i.1 i.2)))

/-- What the last point writes is the maximum over the accumulator it leaves. -/
theorem xmaxC (c : Dev nD) (t : Fin cfg0.N) (h0 : ¬t.val % 8 = 0) (h1 : t.val % 8 = 7) (j : S1x1.Idx) :
    (outsAt0 m c t.val t.isLt).2.2.2.2.1 j = k0_pay1 (F := Ideal) (outsAt0 m c t.val t.isLt).2.2.2.2.2.2.1 := by
  rw [outsAt0_C m c t h0 h1]
  frame_out

/-- The last point's maximum is at most `b` exactly when every value is. -/
theorem xmaxAll_le (c : Dev nD) (t : Fin cfg0.N) (ht : t.val + 1 = cfg0.N) (b : EReal) :
    k0_pay1 (F := Ideal) (outsAt0 m c t.val t.isLt).2.2.2.2.2.2.1 ≤ b ↔ ∀ (p : Fin 1024) (q : Fin 4096), xmaxv m c p q ≤ b := by
  rw [pay1_le]
  have hl := fun i => MaxFold.le_of_reset_step_last
    (fun n h (i : Fin 8 × Fin 128) => (outsAt0 m c n h).2.2.2.2.2.2.1 (ix2 i.1 i.2)) 8 (xmaxP m c)
    (fun t h i b => xmaxA m c t h i b) (fun t h i b => xmaxS m c t h i b) (le_of_eq N_0) t ht i b
  have hN : cfg0.N = 8 := N_0
  constructor
  · intro h p q
    have hp := p.isLt
    have hq := q.isLt
    have h1 := ((hl (⟨p.val % 8, by omega⟩, ⟨q.val % 128, by omega⟩)).mp (h _ _)).2 ⟨p.val / 128, by rw [hN]; omega⟩
      ⟨p.val % 128 / 8, by omega⟩ ⟨q.val / 128, by omega⟩
    refine le_trans (le_of_eq ?_) h1
    rw [xmaxv_eq m c ⟨p.val / 128, by rw [hN]; omega⟩ _ _ p (by dsimp only; omega)]
    exact congrArg (xmaxv m c p) (Fin.ext (by dsimp only; omega))
  · intro h s l
    refine (hl (s, l)).mpr ⟨le_trans (MaxFold.absf_nonneg _) (h 0 0), fun t k q => ?_⟩
    have htt := lt_of_lt_of_eq t.isLt hN
    rw [xmaxv_eq m c t _ _ ⟨t.val * 128 + (k.val * 8 + s.val), by omega⟩ rfl]
    exact h _ _

/-- The array of `x_amax` after the call. -/
theorem final9 (c : Dev nD) : (dats m 0 c).arrAt 9 (cfgs 0).N = Cert.RowsReferenceIdeal.Gen.k0_pay8 (F := Ideal) (m ((c : Thread nD τ).loc main_arg0)) (m ((c : Thread nD τ).loc main_arg1)) := by
  refine (dats m 0 c).arrAt_eq_of_covers 9 _ (by decide +kernel) fun t hf y => ?_
  have h1 : t.val % 8 = 7 := (flush0_9 t).mp hf
  have hN : t.val < 8 := lt_of_lt_of_eq t.isLt N_0
  blk_simp
  rw [after0_9]
  refine (xmaxC m c t (by omega) h1 _).trans ?_
  refine eq_of_forall_ge_iff fun b => ?_
  refine (xmaxAll_le m c t ((show t.val + 1 = 8 by omega).trans N_0.symm) b).trans ?_
  exact (ref8_le (m ((c : Thread nD τ).loc main_arg0)) (m ((c : Thread nD τ).loc main_arg1)) _ b).symm

/-- A value `dy_amax` takes the maximum over. -/
def ymaxv (c : Dev nD) (p : Fin 1024) (q : Fin 4096) : EReal :=
  FloatOps.absf (F := Ideal) (φ := .f32) ((m ((c : Thread nD τ).loc main_arg2)) (ix2 p q))

/-- The block of a point holds its rows of them. -/
theorem ymaxv_eq (c : Dev nD) (t : Fin cfg0.N) (r : Fin 128) (q : Fin 4096) (p : Fin 1024) (hp : (p : ℕ) = t.val * 128 + r.val) :
    FloatOps.absf (F := Ideal) (φ := .f32) (iblk m c 2 t (ix2 r q)) = ymaxv m c p q := by
  unfold ymaxv
  refine congrArg (FloatOps.absf (F := Ideal) (φ := .f32)) ?_
  blk_point [iblk, V, idx t]

/-- What a point's part of the accumulator of `dy_amax` being at most `b` says. -/
def ymaxP (c : Dev nD) (t : Fin cfg0.N) (i : Fin 8 × Fin 128) (b : EReal) : Prop :=
  ∀ (k : Fin 16) (q : Fin 32), FloatOps.absf (F := Ideal) (φ := .f32)
    (iblk m c 2 t (ix2 ⟨k.val * 8 + i.1.val, by omega⟩ ⟨q.val * 128 + i.2.val, by omega⟩)) ≤ b

/-- The accumulator of `dy_amax` after the first point. -/
theorem ymaxA (c : Dev nD) (t : Fin cfg0.N) (h0 : t.val % 8 = 0) (i : Fin 8 × Fin 128) (b : EReal) :
    (outsAt0 m c t.val t.isLt).2.2.2.2.2.2.2 (ix2 i.1 i.2) ≤ b ↔ 0 ≤ b ∧ ymaxP m c t i b := by
  rw [outsAt0_A m c t h0 (by omega)]
  frame_out
  refine (ymax_le _ _ i.1 i.2 b).trans (and_congr ?_ Iff.rfl)
  pointwise [k0_pay3, k0_pay4]

/-- The accumulator of `dy_amax` after any later point. -/
theorem ymaxS (c : Dev nD) (t : Fin cfg0.N) (h0 : ¬t.val % 8 = 0) (i : Fin 8 × Fin 128) (b : EReal) :
    (outsAt0 m c t.val t.isLt).2.2.2.2.2.2.2 (ix2 i.1 i.2) ≤ b
      ↔ (outsAt0 m c (t.val - 1) (Nat.lt_of_le_of_lt (Nat.sub_le _ _) t.isLt)).2.2.2.2.2.2.2 (ix2 i.1 i.2) ≤ b ∧ ymaxP m c t i b := by
  by_cases h1 : t.val % 8 = 7
  · rw [outsAt0_C m c t h0 h1]
    frame_out
    refine (ymax_le _ _ i.1 i.2 b).trans (and_congr ?_ Iff.rfl)
    exact iff_of_eq (congrArg (fun z : EReal => z ≤ b) (congrFun (read_unread_whole (Val := Elt Ideal) cc0_scratch1 _ _) (ix2 i.1 i.2)))
  · rw [outsAt0_B m c t h0 h1]
    frame_out
    refine (ymax_le _ _ i.1 i.2 b).trans (and_congr ?_ Iff.rfl)
    exact iff_of_eq (congrArg (fun z : EReal => z ≤ b) (congrFun (read_unread_whole (Val := Elt Ideal) cc0_scratch1 _ _) (ix2 i.1 i.2)))

/-- What the last point writes is the maximum over the accumulator it leaves. -/
theorem ymaxC (c : Dev nD) (t : Fin cfg0.N) (h0 : ¬t.val % 8 = 0) (h1 : t.val % 8 = 7) (j : S1x1.Idx) :
    (outsAt0 m c t.val t.isLt).2.2.2.2.2.1 j = k0_pay2 (F := Ideal) (outsAt0 m c t.val t.isLt).2.2.2.2.2.2.2 := by
  rw [outsAt0_C m c t h0 h1]
  frame_out

/-- The last point's maximum is at most `b` exactly when every value is. -/
theorem ymaxAll_le (c : Dev nD) (t : Fin cfg0.N) (ht : t.val + 1 = cfg0.N) (b : EReal) :
    k0_pay2 (F := Ideal) (outsAt0 m c t.val t.isLt).2.2.2.2.2.2.2 ≤ b ↔ ∀ (p : Fin 1024) (q : Fin 4096), ymaxv m c p q ≤ b := by
  rw [pay2_le]
  have hl := fun i => MaxFold.le_of_reset_step_last
    (fun n h (i : Fin 8 × Fin 128) => (outsAt0 m c n h).2.2.2.2.2.2.2 (ix2 i.1 i.2)) 8 (ymaxP m c)
    (fun t h i b => ymaxA m c t h i b) (fun t h i b => ymaxS m c t h i b) (le_of_eq N_0) t ht i b
  have hN : cfg0.N = 8 := N_0
  constructor
  · intro h p q
    have hp := p.isLt
    have hq := q.isLt
    have h1 := ((hl (⟨p.val % 8, by omega⟩, ⟨q.val % 128, by omega⟩)).mp (h _ _)).2 ⟨p.val / 128, by rw [hN]; omega⟩
      ⟨p.val % 128 / 8, by omega⟩ ⟨q.val / 128, by omega⟩
    refine le_trans (le_of_eq ?_) h1
    rw [ymaxv_eq m c ⟨p.val / 128, by rw [hN]; omega⟩ _ _ p (by dsimp only; omega)]
    exact congrArg (ymaxv m c p) (Fin.ext (by dsimp only; omega))
  · intro h s l
    refine (hl (s, l)).mpr ⟨le_trans (MaxFold.absf_nonneg _) (h 0 0), fun t k q => ?_⟩
    have htt := lt_of_lt_of_eq t.isLt hN
    rw [ymaxv_eq m c t _ _ ⟨t.val * 128 + (k.val * 8 + s.val), by omega⟩ rfl]
    exact h _ _

/-- The array of `dy_amax` after the call. -/
theorem final10 (c : Dev nD) : (dats m 0 c).arrAt 10 (cfgs 0).N = Cert.RowsReferenceIdeal.Gen.k0_pay3 (F := Ideal) (m ((c : Thread nD τ).loc main_arg2)) := by
  refine (dats m 0 c).arrAt_eq_of_covers 10 _ (by decide +kernel) fun t hf y => ?_
  have h1 : t.val % 8 = 7 := (flush0_10 t).mp hf
  have hN : t.val < 8 := lt_of_lt_of_eq t.isLt N_0
  blk_simp
  rw [after0_10]
  refine (ymaxC m c t (by omega) h1 _).trans ?_
  refine eq_of_forall_ge_iff fun b => ?_
  refine (ymaxAll_le m c t ((show t.val + 1 = 8 by omega).trans N_0.symm) b).trans ?_
  exact (ref3_le (m ((c : Thread nD τ).loc main_arg2)) _ b).symm

end Cert.RowsIdeal.Result

end
-- ==== Proof.BwdRuns.lean ====
/- What the runs of the body of `Bwd` share: at which points its two conditions hold, where the two maxima are idle,
   and the scratch buffers the call keeps between points. -/
module

public import proofs.«01_k».proof.Proof.Gen.Bwd.Frame
public import proofs.«01_k».proof.Proof.Gen.Bwd.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Bwd.Body

open Cert.Bwd Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 22 = 0 :=
  (fun t => by
    have ht : t.val < 22 := Nat.lt_of_lt_of_eq t.isLt N_0
    have e0 : (grid0.coords t 0).val = t.val / 1 % 22 := Pipeline.Grid.coords_val t 0 (by decide) rfl
    simp only [cond0_0, e0]
    word_cmp
   : ∀ t : Fin grid0.N, cond0_0 (grid0.coords t) ↔ t.val % 22 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 22 = 21 :=
  (fun t => by
    have ht : t.val < 22 := Nat.lt_of_lt_of_eq t.isLt N_0
    have e0 : (grid0.coords t 0).val = t.val / 1 % 22 := Pipeline.Grid.coords_val t 0 (by decide) rfl
    simp only [cond0_1, k0_cond2, e0]
    word_cmp
   : ∀ t : Fin grid0.N, cond0_1 (grid0.coords t) ↔ t.val % 22 = 21)

/-! ## Where the two maxima are idle -/

/-- The maximum's window is idle here. -/
theorem idleAt0_17_A : ∀ t : Fin cfg0.N, cond0_0 (grid0.coords t) → ¬cond0_1 (grid0.coords t) → cfg0.idle 17 (grid0.coords t) = true := by decide +kernel
/-- Nothing is written back here. -/
theorem noFlush0_17_A : ∀ t : Fin cfg0.N, cond0_0 (grid0.coords t) → ¬cond0_1 (grid0.coords t) → (cfg0.win 17).flush t = false := by decide +kernel
/-- The maximum's window is idle here. -/
theorem idleAt0_17_B : ∀ t : Fin cfg0.N, ¬cond0_0 (grid0.coords t) → ¬cond0_1 (grid0.coords t) → cfg0.idle 17 (grid0.coords t) = true := by decide +kernel
/-- Nothing is written back here. -/
theorem noFlush0_17_B : ∀ t : Fin cfg0.N, ¬cond0_0 (grid0.coords t) → ¬cond0_1 (grid0.coords t) → (cfg0.win 17).flush t = false := by decide +kernel
/-- At the last point the window is stored. -/
theorem liveAt0_17_C : ∀ t : Fin cfg0.N, ¬cond0_0 (grid0.coords t) → cond0_1 (grid0.coords t) → cfg0.idle 17 (grid0.coords t) = false := by decide +kernel
/-- The maximum's window is idle here. -/
theorem idleAt0_18_A : ∀ t : Fin cfg0.N, cond0_0 (grid0.coords t) → ¬cond0_1 (grid0.coords t) → cfg0.idle 18 (grid0.coords t) = true := by decide +kernel
/-- Nothing is written back here. -/
theorem noFlush0_18_A : ∀ t : Fin cfg0.N, cond0_0 (grid0.coords t) → ¬cond0_1 (grid0.coords t) → (cfg0.win 18).flush t = false := by decide +kernel
/-- The maximum's window is idle here. -/
theorem idleAt0_18_B : ∀ t : Fin cfg0.N, ¬cond0_0 (grid0.coords t) → ¬cond0_1 (grid0.coords t) → cfg0.idle 18 (grid0.coords t) = true := by decide +kernel
/-- Nothing is written back here. -/
theorem noFlush0_18_B : ∀ t : Fin cfg0.N, ¬cond0_0 (grid0.coords t) → ¬cond0_1 (grid0.coords t) → (cfg0.win 18).flush t = false := by decide +kernel
/-- At the last point the window is stored. -/
theorem liveAt0_18_C : ∀ t : Fin cfg0.N, ¬cond0_0 (grid0.coords t) → cond0_1 (grid0.coords t) → cfg0.idle 18 (grid0.coords t) = false := by decide +kernel

/-! ## The staging buffers at a point -/

abbrev ms0_0 (t : Fin cfg0.N) : Memref sig .tc .vmem S1024x4096 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .smem S1x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x4096 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x256 .fp8e5m2 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x256 .fp8e5m2 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4096x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S4096x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .smem S1x1 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .smem S1x1 .f32 := win0_18.stage (cfg0.slots t 18)
abbrev hs0_18 (t : Fin cfg0.N) : (ms0_18 t).IsWhole := hstage0_18 ((cfg0.slots t 18).cast nbuf0_18)

/-- The scratch operands: whole scoped buffers of the kernel's own, passed beside the windows. -/
abbrev scM0_0 : Memref sig .tc .vmem S8x128 .f32 := Memref.whole cc0_scratch0
abbrev scM0_1 : Memref sig .tc .vmem S8x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Bwd.Body

end
-- ==== Proof.BwdRunA.lean ====
/- The body of `Bwd` run once, in case A of its two conditions. -/
module

public import proofs.«01_k».proof.Proof.BwdRuns

@[expose] public section

set_option maxRecDepth 16384

noncomputable section

namespace Cert.Bwd.Body

open Cert.Bwd Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (17, 18: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) :
    Σ' (L12 : List (View.Piece (Elt F) S256x4096 .fp8e4m3)), Σ' (L13 : List (View.Piece (Elt F) S1024x256 .fp8e5m2)), Σ' (L14 : List (View.Piece (Elt F) S1024x256 .fp8e5m2)), Σ' (L15 : List (View.Piece (Elt F) S4096x256 .bf16)), Σ' (L16 : List (View.Piece (Elt F) S4096x256 .bf16)), Σ' (L17 : List (View.Piece (Elt F) S1x1 .f32)), Σ' (L18 : List (View.Piece (Elt F) S1x1 .f32)), Σ' (LS0 : List (View.Piece (Elt F) S8x128 .f32)), { LS1 : List (View.Piece (Elt F) S8x128 .f32) //
      ∀ (xi17 : Vec F S1x1 .f32) (xi18 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xi17 ∗ owns (c : Thread nD τ) arg19 fullShare xi18 ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ owns (c : Thread nD τ) arg18 fullShare xi17 ∗ owns (c : Thread nD τ) arg19 fullShare xi18 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, [], [], ?_, ?_, fun xi17 xi18 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg18.eq_unread hf17; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]
    · iexists _; isplitr; · ipureintro; exact harg18.read_unread _
      iexact H17
    isplitl [H18]
    · iexists _; isplitr; · ipureintro; exact harg19.read_unread _
      iexact H18
    isplitl [HS0]; · iexists _; iexact HS0
    iexists _; iexact HS1

end Cert.Bwd.Body

end
-- ==== Proof.BwdRunB.lean ====
/- The body of `Bwd` run once, in case B of its two conditions. -/
module

public import proofs.«01_k».proof.Proof.BwdRunA

@[expose] public section

set_option maxRecDepth 16384

noncomputable section

namespace Cert.Bwd.Body

open Cert.Bwd Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 20: 20 of 22), WITH the
    proof that on whole staging memrefs — the inputs' at their contents, the outputs it leaves idle (17, 18: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    Σ' (L12 : List (View.Piece (Elt F) S256x4096 .fp8e4m3)), Σ' (L13 : List (View.Piece (Elt F) S1024x256 .fp8e5m2)), Σ' (L14 : List (View.Piece (Elt F) S1024x256 .fp8e5m2)), Σ' (L15 : List (View.Piece (Elt F) S4096x256 .bf16)), Σ' (L16 : List (View.Piece (Elt F) S4096x256 .bf16)), Σ' (L17 : List (View.Piece (Elt F) S1x1 .f32)), Σ' (L18 : List (View.Piece (Elt F) S1x1 .f32)), Σ' (LS0 : List (View.Piece (Elt F) S8x128 .f32)), { LS1 : List (View.Piece (Elt F) S8x128 .f32) //
      ∀ (xi17 : Vec F S1x1 .f32) (xi18 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xi17 ∗ owns (c : Thread nD τ) arg19 fullShare xi18 ∗ owns (c : Thread nD τ) arg20 fullShare xs0 ∗ owns (c : Thread nD τ) arg21 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ owns (c : Thread nD τ) arg18 fullShare xi17 ∗ owns (c : Thread nD τ) arg19 fullShare xi18 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, [], [], ?_, ?_, fun xi17 xi18 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg18.eq_unread hf17; obtain rfl := harg19.eq_unread hf18; obtain rfl := harg20.eq_unread hfs0; obtain rfl := harg21.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]
    · iexists _; isplitr; · ipureintro; exact harg18.read_unread _
      iexact H17
    isplitl [H18]
    · iexists _; isplitr; · ipureintro; exact harg19.read_unread _
      iexact H18
    isplitl [HS0]; · iexists _; iexact HS0
    iexists _; iexact HS1

end Cert.Bwd.Body

end
-- ==== Proof.BwdRunC.lean ====
/- The body of `Bwd` run once, in case C of its two conditions. -/
module

public import proofs.«01_k».proof.Proof.BwdRunB

@[expose] public section

set_option maxRecDepth 16384

noncomputable section

namespace Cert.Bwd.Body

open Cert.Bwd Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 21), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    Σ' (L12 : List (View.Piece (Elt F) S256x4096 .fp8e4m3)), Σ' (L13 : List (View.Piece (Elt F) S1024x256 .fp8e5m2)), Σ' (L14 : List (View.Piece (Elt F) S1024x256 .fp8e5m2)), Σ' (L15 : List (View.Piece (Elt F) S4096x256 .bf16)), Σ' (L16 : List (View.Piece (Elt F) S4096x256 .bf16)), Σ' (L17 : List (View.Piece (Elt F) S1x1 .f32)), Σ' (L18 : List (View.Piece (Elt F) S1x1 .f32)), Σ' (LS0 : List (View.Piece (Elt F) S8x128 .f32)), { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, fun E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg20.eq_unread hfs0; obtain rfl := harg21.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    iexists _; iexact HS1

end Cert.Bwd.Body

end
-- ==== Proof.BwdFrame.lean ====
/- The frame of `Bwd`: the body leaves its input buffers as it finds them, so the argument arrays end unchanged. Nothing is
   said here of what the outputs hold. -/
module

public import proofs.«01_k».proof.Proof.BwdRunC

@[expose] public section

set_option maxRecDepth 16384

noncomputable section

namespace Cert.Bwd.Body

open Cert.Bwd Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows nothing is said of: the seven outputs. -/
def forgets0 : Fin 19 → Bool := fun w => decide (12 ≤ w.val)

/-- Some contents of a block, for what lies past an array's end. -/
def pad {s : Shape} {e : EltTy} : Vec F s e := fun _ => Classical.arbitrary _

/-- Window `w`'s block at point `t`, filled out past the array's end. -/
def fblk (c : Dev nD) (w : Fin cfg0.W) (t : Fin cfg0.N) : (cfg0.win w).block.Idx → Elt F (cfg0.win w).elt :=
  (cfg0.win w).fill (cfg0.grid.coords t) (fun _ => Classical.arbitrary _) (iblk m c w t)

/-- The proof data: every input buffer is left at its block; the outputs are not described. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fblk m c 2 t
    | ⟨3, _⟩ => fblk m c 3 t
    | ⟨4, _⟩ => fblk m c 4 t
    | ⟨5, _⟩ => fblk m c 5 t
    | ⟨6, _⟩ => fblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => fun _ => Classical.arbitrary _
    | ⟨13, _⟩ => fun _ => Classical.arbitrary _
    | ⟨14, _⟩ => fun _ => Classical.arbitrary _
    | ⟨15, _⟩ => fun _ => Classical.arbitrary _
    | ⟨16, _⟩ => fun _ => Classical.arbitrary _
    | ⟨17, _⟩ => fun _ => Classical.arbitrary _
    | ⟨18, _⟩ => fun _ => Classical.arbitrary _
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = fblk m c 2 t := by dsimp only [dats]
theorem after0_3 (c : Dev nD) (t : Fin cfg0.N) : (dats m 0 c).after 3 t = fblk m c 3 t := by dsimp only [dats]
theorem after0_4 (c : Dev nD) (t : Fin cfg0.N) : (dats m 0 c).after 4 t = fblk m c 4 t := by dsimp only [dats]
theorem after0_5 (c : Dev nD) (t : Fin cfg0.N) : (dats m 0 c).after 5 t = fblk m c 5 t := by dsimp only [dats]
theorem after0_6 (c : Dev nD) (t : Fin cfg0.N) : (dats m 0 c).after 6 t = fblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) :
    (dats m 0 c).before 2 t d = (cfg0.win 2).fill (cfg0.grid.coords t) d (iblk m c 2 t) := by
  unfold Dat.before; rw [if_pos (fetch0_2 t)]; rfl
theorem before0_3 (c : Dev nD) (t : Fin cfg0.N) (d) :
    (dats m 0 c).before 3 t d = (cfg0.win 3).fill (cfg0.grid.coords t) d (iblk m c 3 t) := by
  unfold Dat.before; rw [if_pos (fetch0_3 t)]; rfl
theorem before0_4 (c : Dev nD) (t : Fin cfg0.N) (d) :
    (dats m 0 c).before 4 t d = (cfg0.win 4).fill (cfg0.grid.coords t) d (iblk m c 4 t) := by
  unfold Dat.before; rw [if_pos (fetch0_4 t)]; rfl
theorem before0_5 (c : Dev nD) (t : Fin cfg0.N) (d) :
    (dats m 0 c).before 5 t d = (cfg0.win 5).fill (cfg0.grid.coords t) d (iblk m c 5 t) := by
  unfold Dat.before; rw [if_pos (fetch0_5 t)]; rfl
theorem before0_6 (c : Dev nD) (t : Fin cfg0.N) (d) :
    (dats m 0 c).before 6 t d = (cfg0.win 6).fill (cfg0.grid.coords t) d (iblk m c 6 t) := by
  unfold Dat.before; rw [if_pos (fetch0_6 t)]; rfl
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem leaves0_0 (c : Dev nD) (t : Fin cfg0.N) : (dats m 0 c).leaves 0 t
    = owns (c : Thread nD τ) (ms0_0 t) fullShare (iblk m c 0 t) := by
  unfold Dat.leaves; rw [show cfg0.idle 0 (cfg0.grid.coords t) = false from rfl, show cfg0.loose 0 = false from rfl, after0_0]
  try rfl
theorem leaves0_1 (c : Dev nD) (t : Fin cfg0.N) : (dats m 0 c).leaves 1 t
    = owns (c : Thread nD τ) (ms0_1 t) fullShare (iblk m c 1 t) := by
  unfold Dat.leaves; rw [show cfg0.idle 1 (cfg0.grid.coords t) = false from rfl, show cfg0.loose 1 = false from rfl, after0_1]
  try rfl
theorem leaves0_2 (c : Dev nD) (t : Fin cfg0.N) : (dats m 0 c).leaves 2 t
    = iprop(∃ d, owns (c : Thread nD τ) (ms0_2 t) fullShare ((cfg0.win 2).fill (cfg0.grid.coords t) d (iblk m c 2 t))) := by
  unfold Dat.leaves; rw [show cfg0.idle 2 (cfg0.grid.coords t) = false from rfl, show cfg0.loose 2 = true from rfl, after0_2, fblk,
    Window.cut_fill]
  try rfl
theorem leaves0_3 (c : Dev nD) (t : Fin cfg0.N) : (dats m 0 c).leaves 3 t
    = iprop(∃ d, owns (c : Thread nD τ) (ms0_3 t) fullShare ((cfg0.win 3).fill (cfg0.grid.coords t) d (iblk m c 3 t))) := by
  unfold Dat.leaves; rw [show cfg0.idle 3 (cfg0.grid.coords t) = false from rfl, show cfg0.loose 3 = true from rfl, after0_3, fblk,
    Window.cut_fill]
  try rfl
theorem leaves0_4 (c : Dev nD) (t : Fin cfg0.N) : (dats m 0 c).leaves 4 t
    = iprop(∃ d, owns (c : Thread nD τ) (ms0_4 t) fullShare ((cfg0.win 4).fill (cfg0.grid.coords t) d (iblk m c 4 t))) := by
  unfold Dat.leaves; rw [show cfg0.idle 4 (cfg0.grid.coords t) = false from rfl, show cfg0.loose 4 = true from rfl, after0_4, fblk,
    Window.cut_fill]
  try rfl
theorem leaves0_5 (c : Dev nD) (t : Fin cfg0.N) : (dats m 0 c).leaves 5 t
    = iprop(∃ d, owns (c : Thread nD τ) (ms0_5 t) fullShare ((cfg0.win 5).fill (cfg0.grid.coords t) d (iblk m c 5 t))) := by
  unfold Dat.leaves; rw [show cfg0.idle 5 (cfg0.grid.coords t) = false from rfl, show cfg0.loose 5 = true from rfl, after0_5, fblk,
    Window.cut_fill]
  try rfl
theorem leaves0_6 (c : Dev nD) (t : Fin cfg0.N) : (dats m 0 c).leaves 6 t
    = iprop(∃ d, owns (c : Thread nD τ) (ms0_6 t) fullShare ((cfg0.win 6).fill (cfg0.grid.coords t) d (iblk m c 6 t))) := by
  unfold Dat.leaves; rw [show cfg0.idle 6 (cfg0.grid.coords t) = false from rfl, show cfg0.loose 6 = true from rfl, after0_6, fblk,
    Window.cut_fill]
  try rfl
theorem leaves0_7 (c : Dev nD) (t : Fin cfg0.N) : (dats m 0 c).leaves 7 t
    = owns (c : Thread nD τ) (ms0_7 t) fullShare (iblk m c 7 t) := by
  unfold Dat.leaves; rw [show cfg0.idle 7 (cfg0.grid.coords t) = false from rfl, show cfg0.loose 7 = false from rfl, after0_7]
  try rfl
theorem leaves0_8 (c : Dev nD) (t : Fin cfg0.N) : (dats m 0 c).leaves 8 t
    = owns (c : Thread nD τ) (ms0_8 t) fullShare (iblk m c 8 t) := by
  unfold Dat.leaves; rw [show cfg0.idle 8 (cfg0.grid.coords t) = false from rfl, show cfg0.loose 8 = false from rfl, after0_8]
  try rfl
theorem leaves0_9 (c : Dev nD) (t : Fin cfg0.N) : (dats m 0 c).leaves 9 t
    = owns (c : Thread nD τ) (ms0_9 t) fullShare (iblk m c 9 t) := by
  unfold Dat.leaves; rw [show cfg0.idle 9 (cfg0.grid.coords t) = false from rfl, show cfg0.loose 9 = false from rfl, after0_9]
  try rfl
theorem leaves0_10 (c : Dev nD) (t : Fin cfg0.N) : (dats m 0 c).leaves 10 t
    = owns (c : Thread nD τ) (ms0_10 t) fullShare (iblk m c 10 t) := by
  unfold Dat.leaves; rw [show cfg0.idle 10 (cfg0.grid.coords t) = false from rfl, show cfg0.loose 10 = false from rfl, after0_10]
  try rfl
theorem leaves0_11 (c : Dev nD) (t : Fin cfg0.N) : (dats m 0 c).leaves 11 t
    = owns (c : Thread nD τ) (ms0_11 t) fullShare (iblk m c 11 t) := by
  unfold Dat.leaves; rw [show cfg0.idle 11 (cfg0.grid.coords t) = false from rfl, show cfg0.loose 11 = false from rfl, after0_11]
  try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ X : Vec F S256x4096 .fp8e4m3, owns (c : Thread nD τ) (ms0_12 t) fullShare X)
    ∗ (∃ X : Vec F S1024x256 .fp8e5m2, owns (c : Thread nD τ) (ms0_13 t) fullShare X)
    ∗ (∃ X : Vec F S1024x256 .fp8e5m2, owns (c : Thread nD τ) (ms0_14 t) fullShare X)
    ∗ (∃ X : Vec F S4096x256 .bf16, owns (c : Thread nD τ) (ms0_15 t) fullShare X)
    ∗ (∃ X : Vec F S4096x256 .bf16, owns (c : Thread nD τ) (ms0_16 t) fullShare X)
    ∗ (∃ X : Vec F S1x1 .f32, owns (c : Thread nD τ) (ms0_17 t) fullShare X)
    ∗ (∃ X : Vec F S1x1 .f32, owns (c : Thread nD τ) (ms0_18 t) fullShare X))

/-- What the body returns there. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (∃ X : Vec F S256x4096 .fp8e4m3, owns (c : Thread nD τ) (ms0_12 t) fullShare X)
    ∗ (∃ X : Vec F S1024x256 .fp8e5m2, owns (c : Thread nD τ) (ms0_13 t) fullShare X)
    ∗ (∃ X : Vec F S1024x256 .fp8e5m2, owns (c : Thread nD τ) (ms0_14 t) fullShare X)
    ∗ (∃ X : Vec F S4096x256 .bf16, owns (c : Thread nD τ) (ms0_15 t) fullShare X)
    ∗ (∃ X : Vec F S4096x256 .bf16, owns (c : Thread nD τ) (ms0_16 t) fullShare X)
    ∗ (∃ X : Vec F S1x1 .f32, owns (c : Thread nD τ) (ms0_17 t) fullShare X)
    ∗ (∃ X : Vec F S1x1 .f32, owns (c : Thread nD τ) (ms0_18 t) fullShare X))

set_option maxHeartbeats 24000000 in
/-- The body at any point: the closed forms say which case the point is in, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 22 := lt_of_lt_of_eq t.isLt (show cfg0.N = 22 from N_0)
  by_cases h0 : t.val % 22 = 0
  · have h1 : ¬ t.val % 22 = 21 := by omega
    iintro ⟨⟨⟨⟨%sd0, HS0⟩, ⟨%sd1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) _ _ _ _ _ _ _ _ _ _ _ _).2.2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexact H17
    isplitl [H18]; · iexact H18
    isplitl [HS0]; · iexists _; iexact HS0
    isplitl [HS1]; · iexists _; iexact HS1
    iintro ⟨H0, H1, H2, H3, H4, H5, H6, H7, H8, H9, H10, H11, ⟨%e12, H12⟩, ⟨%e13, H13⟩, ⟨%e14, H14⟩, ⟨%e15, H15⟩, ⟨%e16, H16⟩, H17, H18, ⟨%es0, HS0⟩, ⟨%es1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexact H7
    isplitl [H8]; · iexact H8
    isplitl [H9]; · iexact H9
    isplitl [H10]; · iexact H10
    isplitl [H11]; · iexact H11
    isplitl [H12]
    · iexists _; unfold owns; iexists _; isplitr
      swap; · iexact H12
      ipureintro; rfl
    isplitl [H13]
    · iexists _; unfold owns; iexists _; isplitr
      swap; · iexact H13
      ipureintro; rfl
    isplitl [H14]
    · iexists _; unfold owns; iexists _; isplitr
      swap; · iexact H14
      ipureintro; rfl
    isplitl [H15]
    · iexists _; unfold owns; iexists _; isplitr
      swap; · iexact H15
      ipureintro; rfl
    isplitl [H16]
    · iexists _; unfold owns; iexists _; isplitr
      swap; · iexact H16
      ipureintro; rfl
    isplitl [H17]; · iexists _; iexact H17
    iexists _; iexact H18
  · by_cases h1 : t.val % 22 = 21
    · iintro ⟨⟨⟨⟨%sd0, HS0⟩, ⟨%sd1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _ _).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      isplitl [HS1]; · iexact HS1
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          iexists _; unfold owns; iexists _; isplitr
          swap; · iexact HS1
          ipureintro; rfl
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexact H7
      isplitl [H8]; · iexact H8
      isplitl [H9]; · iexact H9
      isplitl [H10]; · iexact H10
      isplitl [H11]; · iexact H11
      isplitl [H12]
      · iexists _; unfold owns; iexists _; isplitr
        swap; · iexact H12
        ipureintro; rfl
      isplitl [H13]
      · iexists _; unfold owns; iexists _; isplitr
        swap; · iexact H13
        ipureintro; rfl
      isplitl [H14]
      · iexists _; unfold owns; iexists _; isplitr
        swap; · iexact H14
        ipureintro; rfl
      isplitl [H15]
      · iexists _; unfold owns; iexists _; isplitr
        swap; · iexact H15
        ipureintro; rfl
      isplitl [H16]
      · iexists _; unfold owns; iexists _; isplitr
        swap; · iexact H16
        ipureintro; rfl
      isplitl [H17]
      · iexists _; unfold owns; iexists _; isplitr
        swap; · iexact H17
        ipureintro; rfl
      iexists _; unfold owns; iexists _; isplitr
      swap; · iexact H18
      ipureintro; rfl
    · iintro ⟨⟨⟨⟨%sd0, HS0⟩, ⟨%sd1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _ _ _ _ _).2.2.2.2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexact H17
      isplitl [H18]; · iexact H18
      isplitl [HS0]; · iexact HS0
      isplitl [HS1]; · iexact HS1
      iintro ⟨H0, H1, H2, H3, H4, H5, H6, H7, H8, H9, H10, H11, ⟨%e12, H12⟩, ⟨%e13, H13⟩, ⟨%e14, H14⟩, ⟨%e15, H15⟩, ⟨%e16, H16⟩, H17, H18, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          iexists _; unfold owns; iexists _; isplitr
          swap; · iexact HS1
          ipureintro; rfl
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexact H7
      isplitl [H8]; · iexact H8
      isplitl [H9]; · iexact H9
      isplitl [H10]; · iexact H10
      isplitl [H11]; · iexact H11
      isplitl [H12]
      · iexists _; unfold owns; iexists _; isplitr
        swap; · iexact H12
        ipureintro; rfl
      isplitl [H13]
      · iexists _; unfold owns; iexists _; isplitr
        swap; · iexact H13
        ipureintro; rfl
      isplitl [H14]
      · iexists _; unfold owns; iexists _; isplitr
        swap; · iexact H14
        ipureintro; rfl
      isplitl [H15]
      · iexists _; unfold owns; iexists _; isplitr
        swap; · iexact H15
        ipureintro; rfl
      isplitl [H16]
      · iexists _; unfold owns; iexists _; isplitr
        swap; · iexact H16
        ipureintro; rfl
      isplitl [H17]; · iexists _; iexact H17
      iexists _; iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, the outputs forgotten. -/
theorem body_obligation (c : Dev nD) : BodyObligationLoose (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole run: every input array as the region finds it, every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame of the program: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨
      (Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 7 rfl).trans ((A_eq m c 7).trans (V_main_arg6 m c)),
      (Pipeline.RDat.FramePost.arr_in h.1 c 8 rfl).trans ((A_eq m c 8).trans (V_main_arg7 m c)),
      (Pipeline.RDat.FramePost.arr_in h.1 c 9 rfl).trans ((A_eq m c 9).trans (V_main_arg8 m c)),
      (Pipeline.RDat.FramePost.arr_in h.1 c 10 rfl).trans ((A_eq m c 10).trans (V_main_arg9 m c)),
      (Pipeline.RDat.FramePost.arr_in h.1 c 11 rfl).trans ((A_eq m c 11).trans (V_main_arg10 m c))⟩, h.2⟩) (run_main m ρ)

end Cert.Bwd.Body

end
-- ==== Proof.BwdIdealBlocks.lean ====
/- What one grid point of `BwdIdeal` leaves in its output blocks, as functions of the blocks it reads. -/
module

public import proofs.«01_k».proof.Proof.Gen.BwdIdeal.Skeleton
public import Idealize.ShloMosaic.Lib.Pipeline.ValueKit
public import Idealize.ShloMosaic.Lib.Pointwise

@[expose] public section

set_option maxRecDepth 16384

noncomputable section

namespace Cert.BwdIdeal.Body

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The scalar that a one-by-one block holds. -/
abbrev scal (x : Vec F S1x1 .f32) : F .f32 := View.ld x (Rect.unit ![0, 0] ![1, 1] inb_S1x1_S1x1_0_0) (Shape.Idx.first (numel1_S1x1.symm ▸ Nat.one_pos : 0 < S1x1.numel))

/-- A load of the whole of a buffer written in pieces reads what the pieces leave. -/
theorem readCov_whole {Val : EltTy → Type} [∀ e, Nonempty (Val e)] {S : Shape} {e : EltTy} {sig : RefSig} {κ : Kind} {sp : Space} (v : View sig κ sp S e) (L : List (View.Piece Val S e))
    {off : Fin S.rank → Nat} (inb : ∀ a, off a + S.size a ≤ S.size a) (h : ∀ a, off a = 0) :
    v.readCov L (Rect.unit off (no_index S.size) inb).toLoadRect = View.canon L :=
  (View.readCov_eq_canon' v L _).trans (View.ld_unit_lit' inb (View.canon L) h)

/-- The block of re-quantised down weights: thirty-two column tiles. -/
def w2k (x2 : Vec F S256x4096 .bf16) (x6 : Vec F S256x128 .f32) (x7 : Vec F S1x1 .f32) : Vec F S256x4096 .fp8e4m3 :=
  View.canon [
    ⟨Rect.unit ![0, 3968] ![256, 128] inb_S256x4096_S256x128_0_3968, k0_pay48 (scal x7) (k0_pay7 x6) (View.ld x2 (Rect.unit ![0, 3968] ![256, 128] inb_S256x4096_S256x128_0_3968))⟩,
    ⟨Rect.unit ![0, 3840] ![256, 128] inb_S256x4096_S256x128_0_3840, k0_pay47 (scal x7) (k0_pay7 x6) (View.ld x2 (Rect.unit ![0, 3840] ![256, 128] inb_S256x4096_S256x128_0_3840))⟩,
    ⟨Rect.unit ![0, 3712] ![256, 128] inb_S256x4096_S256x128_0_3712, k0_pay46 (scal x7) (k0_pay7 x6) (k0_pay45 (View.ld x2 (Rect.unit ![0, 3712] ![256, 128] inb_S256x4096_S256x128_0_3712)))⟩,
    ⟨Rect.unit ![0, 3584] ![256, 128] inb_S256x4096_S256x128_0_3584, k0_pay44 (scal x7) (k0_pay7 x6) (View.ld x2 (Rect.unit ![0, 3584] ![256, 128] inb_S256x4096_S256x128_0_3584))⟩,
    ⟨Rect.unit ![0, 3456] ![256, 128] inb_S256x4096_S256x128_0_3456, k0_pay43 (scal x7) (k0_pay7 x6) (View.ld x2 (Rect.unit ![0, 3456] ![256, 128] inb_S256x4096_S256x128_0_3456))⟩,
    ⟨Rect.unit ![0, 3328] ![256, 128] inb_S256x4096_S256x128_0_3328, k0_pay42 (scal x7) (k0_pay7 x6) (View.ld x2 (Rect.unit ![0, 3328] ![256, 128] inb_S256x4096_S256x128_0_3328))⟩,
    ⟨Rect.unit ![0, 3200] ![256, 128] inb_S256x4096_S256x128_0_3200, k0_pay41 (scal x7) (k0_pay7 x6) (View.ld x2 (Rect.unit ![0, 3200] ![256, 128] inb_S256x4096_S256x128_0_3200))⟩,
    ⟨Rect.unit ![0, 3072] ![256, 128] inb_S256x4096_S256x128_0_3072, k0_pay40 (scal x7) (k0_pay7 x6) (View.ld x2 (Rect.unit ![0, 3072] ![256, 128] inb_S256x4096_S256x128_0_3072))⟩,
    ⟨Rect.unit ![0, 2944] ![256, 128] inb_S256x4096_S256x128_0_2944, k0_pay39 (scal x7) (k0_pay7 x6) (View.ld x2 (Rect.unit ![0, 2944] ![256, 128] inb_S256x4096_S256x128_0_2944))⟩,
    ⟨Rect.unit ![0, 2816] ![256, 128] inb_S256x4096_S256x128_0_2816, k0_pay38 (k0_pay36 (scal x7) (k0_pay7 x6) (View.ld x2 (Rect.unit ![0, 2816] ![256, 128] inb_S256x4096_S256x128_0_2816))) (FloatOps.ofBits FTy.f32 0x43E00000#32) k0_pay37⟩,
    ⟨Rect.unit ![0, 2688] ![256, 128] inb_S256x4096_S256x128_0_2688, k0_pay35 (scal x7) (k0_pay7 x6) (View.ld x2 (Rect.unit ![0, 2688] ![256, 128] inb_S256x4096_S256x128_0_2688))⟩,
    ⟨Rect.unit ![0, 2560] ![256, 128] inb_S256x4096_S256x128_0_2560, k0_pay34 (scal x7) (k0_pay7 x6) (View.ld x2 (Rect.unit ![0, 2560] ![256, 128] inb_S256x4096_S256x128_0_2560))⟩,
    ⟨Rect.unit ![0, 2432] ![256, 128] inb_S256x4096_S256x128_0_2432, k0_pay33 (scal x7) (k0_pay7 x6) (k0_pay32 (View.ld x2 (Rect.unit ![0, 2432] ![256, 128] inb_S256x4096_S256x128_0_2432)))⟩,
    ⟨Rect.unit ![0, 2304] ![256, 128] inb_S256x4096_S256x128_0_2304, k0_pay31 (scal x7) (k0_pay7 x6) (View.ld x2 (Rect.unit ![0, 2304] ![256, 128] inb_S256x4096_S256x128_0_2304))⟩,
    ⟨Rect.unit ![0, 2176] ![256, 128] inb_S256x4096_S256x128_0_2176, k0_pay30 (scal x7) (k0_pay7 x6) (View.ld x2 (Rect.unit ![0, 2176] ![256, 128] inb_S256x4096_S256x128_0_2176))⟩,
    ⟨Rect.unit ![0, 2048] ![256, 128] inb_S256x4096_S256x128_0_2048, k0_pay29 (scal x7) (k0_pay7 x6) (View.ld x2 (Rect.unit ![0, 2048] ![256, 128] inb_S256x4096_S256x128_0_2048))⟩,
    ⟨Rect.unit ![0, 1920] ![256, 128] inb_S256x4096_S256x128_0_1920, k0_pay28 (scal x7) (k0_pay7 x6) (View.ld x2 (Rect.unit ![0, 1920] ![256, 128] inb_S256x4096_S256x128_0_1920))⟩,
    ⟨Rect.unit ![0, 1792] ![256, 128] inb_S256x4096_S256x128_0_1792, k0_pay27 (scal x7) (k0_pay7 x6) (View.ld x2 (Rect.unit ![0, 1792] ![256, 128] inb_S256x4096_S256x128_0_1792))⟩,
    ⟨Rect.unit ![0, 1664] ![256, 128] inb_S256x4096_S256x128_0_1664, k0_pay26 (scal x7) (k0_pay7 x6) (View.ld x2 (Rect.unit ![0, 1664] ![256, 128] inb_S256x4096_S256x128_0_1664))⟩,
    ⟨Rect.unit ![0, 1536] ![256, 128] inb_S256x4096_S256x128_0_1536, k0_pay25 (k0_pay23 (scal x7) (k0_pay7 x6) (View.ld x2 (Rect.unit ![0, 1536] ![256, 128] inb_S256x4096_S256x128_0_1536))) (FloatOps.ofBits FTy.f32 0x43E00000#32) k0_pay24⟩,
    ⟨Rect.unit ![0, 1408] ![256, 128] inb_S256x4096_S256x128_0_1408, k0_pay22 (scal x7) (k0_pay7 x6) (View.ld x2 (Rect.unit ![0, 1408] ![256, 128] inb_S256x4096_S256x128_0_1408))⟩,
    ⟨Rect.unit ![0, 1280] ![256, 128] inb_S256x4096_S256x128_0_1280, k0_pay21 (scal x7) (k0_pay7 x6) (View.ld x2 (Rect.unit ![0, 1280] ![256, 128] inb_S256x4096_S256x128_0_1280))⟩,
    ⟨Rect.unit ![0, 1152] ![256, 128] inb_S256x4096_S256x128_0_1152, k0_pay20 (scal x7) (k0_pay7 x6) (k0_pay19 (View.ld x2 (Rect.unit ![0, 1152] ![256, 128] inb_S256x4096_S256x128_0_1152)))⟩,
    ⟨Rect.unit ![0, 1024] ![256, 128] inb_S256x4096_S256x128_0_1024, k0_pay18 (scal x7) (k0_pay7 x6) (View.ld x2 (Rect.unit ![0, 1024] ![256, 128] inb_S256x4096_S256x128_0_1024))⟩,
    ⟨Rect.unit ![0, 896] ![256, 128] inb_S256x4096_S256x128_0_896, k0_pay17 (scal x7) (k0_pay7 x6) (View.ld x2 (Rect.unit ![0, 896] ![256, 128] inb_S256x4096_S256x128_0_896))⟩,
    ⟨Rect.unit ![0, 768] ![256, 128] inb_S256x4096_S256x128_0_768, k0_pay16 (scal x7) (k0_pay7 x6) (View.ld x2 (Rect.unit ![0, 768] ![256, 128] inb_S256x4096_S256x128_0_768))⟩,
    ⟨Rect.unit ![0, 640] ![256, 128] inb_S256x4096_S256x128_0_640, k0_pay15 (scal x7) (k0_pay7 x6) (View.ld x2 (Rect.unit ![0, 640] ![256, 128] inb_S256x4096_S256x128_0_640))⟩,
    ⟨Rect.unit ![0, 512] ![256, 128] inb_S256x4096_S256x128_0_512, k0_pay14 (scal x7) (k0_pay7 x6) (View.ld x2 (Rect.unit ![0, 512] ![256, 128] inb_S256x4096_S256x128_0_512))⟩,
    ⟨Rect.unit ![0, 384] ![256, 128] inb_S256x4096_S256x128_0_384, k0_pay13 (scal x7) (k0_pay7 x6) (View.ld x2 (Rect.unit ![0, 384] ![256, 128] inb_S256x4096_S256x128_0_384))⟩,
    ⟨Rect.unit ![0, 256] ![256, 128] inb_S256x4096_S256x128_0_256, k0_pay12 (k0_pay10 (scal x7) x6 (View.ld x2 (Rect.unit ![0, 256] ![256, 128] inb_S256x4096_S256x128_0_256))) (FloatOps.ofBits FTy.f32 0x43E00000#32) k0_pay11⟩,
    ⟨Rect.unit ![0, 128] ![256, 128] inb_S256x4096_S256x128_0_128, k0_pay9 (scal x7) x6 (View.ld x2 (Rect.unit ![0, 128] ![256, 128] inb_S256x4096_S256x128_0_128))⟩,
    ⟨Rect.unit ![0, 0] ![256, 128] inb_S256x4096_S256x128_0_0, k0_pay8 (scal x7) x6 (View.ld x2 (Rect.unit ![0, 0] ![256, 128] inb_S256x4096_S256x128_0_0))⟩]

/-- The unscaled product of the codes of `dy` and of the down weights. -/
def dhk (x0 : Vec F S1024x4096 .fp8e5m2) (x2 : Vec F S256x4096 .bf16) (x6 : Vec F S256x128 .f32) (x7 : Vec F S1x1 .f32) : FVec F S1024x256 .f32 :=
  k0_pay49 x0 (w2k x2 x6 x7)

/-- The gradient of the gate, before its quantisation. -/
def dgk (x0 : Vec F S1024x4096 .fp8e5m2) (x2 : Vec F S256x4096 .bf16) (x3 : Vec F S1024x256 .f32) (x4 : Vec F S1024x256 .f32) (x5 : Vec F S1x256 .f32) (x6 : Vec F S256x128 .f32) (x7 : Vec F S1x1 .f32) (x9 : Vec F S1x1 .f32) : FVec F S1024x256 .f32 :=
  k0_pay52 (scal x7) (dhk x0 x2 x6 x7) (scal x9) x5 x3 x4

/-- The gradient of the up projection, before its quantisation. -/
def duk (x0 : Vec F S1024x4096 .fp8e5m2) (x2 : Vec F S256x4096 .bf16) (x3 : Vec F S1024x256 .f32) (x5 : Vec F S1x256 .f32) (x6 : Vec F S256x128 .f32) (x7 : Vec F S1x1 .f32) (x9 : Vec F S1x1 .f32) : FVec F S1024x256 .f32 :=
  k0_pay53 (scal x7) (dhk x0 x2 x6 x7) (scal x9) x5 x3

/-- The running maximum of the gate's gradient after a point that found `v` in it. -/
def gmk (i : grid0.Coords) (x0 : Vec F S1024x4096 .fp8e5m2) (x2 : Vec F S256x4096 .bf16) (x3 : Vec F S1024x256 .f32) (x4 : Vec F S1024x256 .f32) (x5 : Vec F S1x256 .f32) (x6 : Vec F S256x128 .f32) (x7 : Vec F S1x1 .f32) (x9 : Vec F S1x1 .f32) (v : Vec F S8x128 .f32) : FVec F S8x128 .f32 :=
  k0_pay55 (BitVec.ofNat 32 (i 0).val) (scal x7) (dhk x0 x2 x6 x7) (scal x9) x5 x3 x4 v

/-- The running maximum of the up projection's gradient after a point that found `v` in it. -/
def umk (i : grid0.Coords) (x0 : Vec F S1024x4096 .fp8e5m2) (x2 : Vec F S256x4096 .bf16) (x3 : Vec F S1024x256 .f32) (x5 : Vec F S1x256 .f32) (x6 : Vec F S256x128 .f32) (x7 : Vec F S1x1 .f32) (x9 : Vec F S1x1 .f32) (v : Vec F S8x128 .f32) : FVec F S8x128 .f32 :=
  k0_pay56 (duk x0 x2 x3 x5 x6 x7 x9) (k0_pay54 (BitVec.ofNat 32 (i 0).val)) v

/-- The block of the gate's gradient codes. -/
def dgc (x0 : Vec F S1024x4096 .fp8e5m2) (x2 : Vec F S256x4096 .bf16) (x3 : Vec F S1024x256 .f32) (x4 : Vec F S1024x256 .f32) (x5 : Vec F S1x256 .f32) (x6 : Vec F S256x128 .f32) (x7 : Vec F S1x1 .f32) (x9 : Vec F S1x1 .f32) (x10 : Vec F S1x1 .f32) : FVec F S1024x256 .fp8e5m2 :=
  k0_pay57 (dgk x0 x2 x3 x4 x5 x6 x7 x9) (scal x10)

/-- The block of the up projection's gradient codes. -/
def duc (x0 : Vec F S1024x4096 .fp8e5m2) (x2 : Vec F S256x4096 .bf16) (x3 : Vec F S1024x256 .f32) (x5 : Vec F S1x256 .f32) (x6 : Vec F S256x128 .f32) (x7 : Vec F S1x1 .f32) (x9 : Vec F S1x1 .f32) (x11 : Vec F S1x1 .f32) : FVec F S1024x256 .fp8e5m2 :=
  k0_pay58 (duk x0 x2 x3 x5 x6 x7 x9) (scal x11)

/-- The block of the gate weights' gradient. -/
def dwgk (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 x8 x9 x10 : Vec F S1x1 .f32) : FVec F S4096x256 .bf16 :=
  k0_pay1 (k0_pay59 (dgk x0 x2 x3 x4 x5 x6 x7 x9) (scal x10) x1) (scal x8) (scal x10)

/-- The block of the up weights' gradient. -/
def dwuk (x0 : Vec F S1024x4096 .fp8e5m2) (x1 : Vec F S4096x1024 .fp8e4m3) (x2 : Vec F S256x4096 .bf16) (x3 : Vec F S1024x256 .f32) (x5 : Vec F S1x256 .f32) (x6 : Vec F S256x128 .f32) (x7 x8 x9 x11 : Vec F S1x1 .f32) : FVec F S4096x256 .bf16 :=
  k0_pay2 (duc x0 x2 x3 x5 x6 x7 x9 x11) x1 (scal x8) (scal x11)

end Cert.BwdIdeal.Body

end
-- ==== Proof.BwdIdealEntries.lean ====
/- The blocks of `BwdIdeal` entry by entry, against the reference's values. -/
module

public import proofs.«01_k».proof.Proof.BwdIdealBlocks
public import proofs.«01_k».proof.Proof.Gen.BwdReferenceIdeal.Value
public import proofs.«01_k».proof.Proof.MaxFold
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.BwdIdeal.Body

open Cert.BwdIdeal Cert.BwdIdeal.Gen

/-- A scalar is the entry of its one-by-one block. -/
theorem scal_eq (s : Vec Ideal S1x1 .f32) : scal s = s (ix2 0 0) := by
  unfold scal
  pointwise
  try rfl

theorem ldR0 (a : Vec Ideal Cert.BwdReferenceIdeal.S5504x4096 .bf16) : View.ld a Cert.BwdReferenceIdeal.Gen.r0_0 = a := View.ld_unit_zero (S := Cert.BwdReferenceIdeal.S5504x4096) (by decide) _ a
theorem ldR1 (a : Vec Ideal Cert.BwdReferenceIdeal.S1x5504 .f32) : View.ld a Cert.BwdReferenceIdeal.Gen.r0_1 = a := View.ld_unit_zero (S := Cert.BwdReferenceIdeal.S1x5504) (by decide) _ a
theorem ldR2 (a : Vec Ideal Cert.BwdReferenceIdeal.S1x1 .f32) : View.ld a Cert.BwdReferenceIdeal.Gen.r0_2 = a := View.ld_unit_zero (S := Cert.BwdReferenceIdeal.S1x1) (by decide) _ a

/-- The reference's gradient of the gate, before its quantisation. -/
def refDg (a0 : Vec Ideal Cert.BwdReferenceIdeal.S1024x4096 .fp8e5m2) (a1 : Vec Ideal Cert.BwdReferenceIdeal.S1024x4096 .fp8e4m3) (a2 : Vec Ideal Cert.BwdReferenceIdeal.S5504x4096 .bf16) (a3 a4 : Vec Ideal Cert.BwdReferenceIdeal.S1024x5504 .f32) (a5 : Vec Ideal Cert.BwdReferenceIdeal.S1x5504 .f32) (a6 a7 a8 a9 a10 : Vec Ideal Cert.BwdReferenceIdeal.S1x1 .f32) : FVec Ideal Cert.BwdReferenceIdeal.S1024x5504 .f32 :=
  Cert.BwdReferenceIdeal.Gen.k0_pay9 (Cert.BwdReferenceIdeal.Gen.k0_pay17 a0 a1 a2 a3 a4 a5 a6 a7 a8 a9 a10) (Cert.BwdReferenceIdeal.Gen.k0_pay18 a0 a1 a2 a3 a4 a5 a6 a7 a8 a9 a10) (Cert.BwdReferenceIdeal.Gen.k0_pay19 a0 a1 a2 a3 a4 a5 a6 a7 a8 a9 a10)

/-- The reference's gradient of the up projection, before its quantisation. -/
def refDu (a0 : Vec Ideal Cert.BwdReferenceIdeal.S1024x4096 .fp8e5m2) (a1 : Vec Ideal Cert.BwdReferenceIdeal.S1024x4096 .fp8e4m3) (a2 : Vec Ideal Cert.BwdReferenceIdeal.S5504x4096 .bf16) (a3 a4 : Vec Ideal Cert.BwdReferenceIdeal.S1024x5504 .f32) (a5 : Vec Ideal Cert.BwdReferenceIdeal.S1x5504 .f32) (a6 a7 a8 a9 a10 : Vec Ideal Cert.BwdReferenceIdeal.S1x1 .f32) : FVec Ideal Cert.BwdReferenceIdeal.S1024x5504 .f32 :=
  Cert.BwdReferenceIdeal.Gen.k0_pay10 (Cert.BwdReferenceIdeal.Gen.k0_pay15 a0 a1 a2 a3 a4 a5 a6 a7 a8 a9 a10) a3 (Cert.BwdReferenceIdeal.Gen.k0_pay16 a0 a1 a2 a3 a4 a5 a6 a7 a8 a9 a10)

/-- An entry of the re-quantised down weights. -/
theorem w2k_apply (x2 : Vec Ideal S256x4096 .bf16) (x6 : Vec Ideal S256x128 .f32) (s : Vec Ideal S1x1 .f32)
    (a2 : Vec Ideal Cert.BwdReferenceIdeal.S5504x4096 .bf16) (a5 : Vec Ideal Cert.BwdReferenceIdeal.S1x5504 .f32)
    (y : S256x4096.Idx) (z : Cert.BwdReferenceIdeal.S5504x4096.Idx) (h2 : x2 y = a2 z)
    (h6 : ∀ l : Fin 128, x6 (ix2 (y 0) l) = a5 (ix2 0 (z 0))) :
    w2k x2 x6 s y = Cert.BwdReferenceIdeal.Gen.k0_pay3 a2 a5 s z := by
  unfold w2k
  canon_tiles x h
  all_goals
    pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, Cert.BwdReferenceIdeal.Gen.k0_pay3]
    rw [scal_eq, ← h2, ← h6 (x 1)]
    refine congrArg (min _) (congrArg (max _) (congrArg (fun z => Ideal.div z _) (congrArg₂ (fun a b : EReal => a * b) (congrArg x2 ?_) (congrArg x6 ?_))))
    · funext a; apply Fin.ext
      match a with
      | ⟨0, _⟩ => exact h0.symm
      | ⟨1, _⟩ => exact h1.symm
    · funext a; apply Fin.ext
      match a with
      | ⟨0, _⟩ => exact h0.symm
      | ⟨1, _⟩ => rfl

/-- An entry of the gradient of the gate. -/
theorem dgk_apply (x0 : Vec Ideal S1024x4096 .fp8e5m2) (x2 : Vec Ideal S256x4096 .bf16) (x3 x4 : Vec Ideal S1024x256 .f32)
    (x5 : Vec Ideal S1x256 .f32) (x6 : Vec Ideal S256x128 .f32) (s x d e u : Vec Ideal S1x1 .f32)
    (a1 : Vec Ideal Cert.BwdReferenceIdeal.S1024x4096 .fp8e4m3) (a2 : Vec Ideal Cert.BwdReferenceIdeal.S5504x4096 .bf16) (a3 a4 : Vec Ideal Cert.BwdReferenceIdeal.S1024x5504 .f32)
    (a5 : Vec Ideal Cert.BwdReferenceIdeal.S1x5504 .f32)
    (p : Fin 1024) (r : Fin 256) (z : Fin 5504)
    (h2 : ∀ q, x2 (ix2 r q) = a2 (ix2 z q)) (h6 : ∀ l, x6 (ix2 r l) = a5 (ix2 0 z))
    (h3 : x3 (ix2 p r) = a3 (ix2 p z)) (h4 : x4 (ix2 p r) = a4 (ix2 p z)) (h5 : x5 (ix2 0 r) = a5 (ix2 0 z)) :
    dgk x0 x2 x3 x4 x5 x6 s d (ix2 p r) = refDg x0 a1 a2 a3 a4 a5 s x d e u (ix2 p z) := by
  unfold dgk dhk refDg Cert.BwdReferenceIdeal.Gen.k0_pay17 Cert.BwdReferenceIdeal.Gen.k0_pay18 Cert.BwdReferenceIdeal.Gen.k0_pay19
  pointwise [k0_pay49, k0_pay50, k0_pay51, k0_pay52, Cert.BwdReferenceIdeal.Gen.k0_pay4, Cert.BwdReferenceIdeal.Gen.k0_pay5, Cert.BwdReferenceIdeal.Gen.k0_pay6, Cert.BwdReferenceIdeal.Gen.k0_pay7, Cert.BwdReferenceIdeal.Gen.k0_pay8, Cert.BwdReferenceIdeal.Gen.k0_pay9]
  rw [scal_eq, scal_eq, h3, h4, h5, ldR0, ldR1, ldR2,
    Finset.sum_congr rfl fun q _ => congrArg (fun v : EReal => (x0 (ix2 p q) : EReal) * v) (w2k_apply x2 x6 s a2 a5 (ix2 r q) (ix2 z q) (h2 q) h6)]

/-- An entry of the gradient of the up projection. -/
theorem duk_apply (x0 : Vec Ideal S1024x4096 .fp8e5m2) (x2 : Vec Ideal S256x4096 .bf16) (x3 x4 : Vec Ideal S1024x256 .f32)
    (x5 : Vec Ideal S1x256 .f32) (x6 : Vec Ideal S256x128 .f32) (s x d e u : Vec Ideal S1x1 .f32)
    (a1 : Vec Ideal Cert.BwdReferenceIdeal.S1024x4096 .fp8e4m3) (a2 : Vec Ideal Cert.BwdReferenceIdeal.S5504x4096 .bf16) (a3 a4 : Vec Ideal Cert.BwdReferenceIdeal.S1024x5504 .f32)
    (a5 : Vec Ideal Cert.BwdReferenceIdeal.S1x5504 .f32)
    (p : Fin 1024) (r : Fin 256) (z : Fin 5504)
    (h2 : ∀ q, x2 (ix2 r q) = a2 (ix2 z q)) (h6 : ∀ l, x6 (ix2 r l) = a5 (ix2 0 z))
    (h3 : x3 (ix2 p r) = a3 (ix2 p z)) (h5 : x5 (ix2 0 r) = a5 (ix2 0 z)) :
    duk x0 x2 x3 x5 x6 s d (ix2 p r) = refDu x0 a1 a2 a3 a4 a5 s x d e u (ix2 p z) := by
  unfold duk dhk refDu Cert.BwdReferenceIdeal.Gen.k0_pay15 Cert.BwdReferenceIdeal.Gen.k0_pay16
  pointwise [k0_pay49, k0_pay50, k0_pay51, k0_pay53, Cert.BwdReferenceIdeal.Gen.k0_pay4, Cert.BwdReferenceIdeal.Gen.k0_pay5, Cert.BwdReferenceIdeal.Gen.k0_pay10]
  rw [scal_eq, scal_eq, h3, h5, ldR0, ldR1, ldR2,
    Finset.sum_congr rfl fun q _ => congrArg (fun v : EReal => (x0 (ix2 p q) : EReal) * v) (w2k_apply x2 x6 s a2 a5 (ix2 r q) (ix2 z q) (h2 q) h6)]

/-- An entry of the gate's gradient codes. -/
theorem dgc_apply (x0 : Vec Ideal S1024x4096 .fp8e5m2) (x2 : Vec Ideal S256x4096 .bf16) (x3 x4 : Vec Ideal S1024x256 .f32)
    (x5 : Vec Ideal S1x256 .f32) (x6 : Vec Ideal S256x128 .f32) (s x d e u : Vec Ideal S1x1 .f32)
    (a1 : Vec Ideal Cert.BwdReferenceIdeal.S1024x4096 .fp8e4m3) (a2 : Vec Ideal Cert.BwdReferenceIdeal.S5504x4096 .bf16) (a3 a4 : Vec Ideal Cert.BwdReferenceIdeal.S1024x5504 .f32)
    (a5 : Vec Ideal Cert.BwdReferenceIdeal.S1x5504 .f32)
    (p : Fin 1024) (r : Fin 256) (z : Fin 5504)
    (h2 : ∀ q, x2 (ix2 r q) = a2 (ix2 z q)) (h6 : ∀ l, x6 (ix2 r l) = a5 (ix2 0 z))
    (h3 : x3 (ix2 p r) = a3 (ix2 p z)) (h4 : x4 (ix2 p r) = a4 (ix2 p z)) (h5 : x5 (ix2 0 r) = a5 (ix2 0 z)) :
    dgc x0 x2 x3 x4 x5 x6 s d e (ix2 p r) = Cert.BwdReferenceIdeal.Gen.k0_pay11 (Cert.BwdReferenceIdeal.Gen.k0_pay17 x0 a1 a2 a3 a4 a5 s x d e u) (Cert.BwdReferenceIdeal.Gen.k0_pay18 x0 a1 a2 a3 a4 a5 s x d e u) (Cert.BwdReferenceIdeal.Gen.k0_pay19 x0 a1 a2 a3 a4 a5 s x d e u) e (ix2 p z) := by
  have h := dgk_apply x0 x2 x3 x4 x5 x6 s x d e u a1 a2 a3 a4 a5 p r z h2 h6 h3 h4 h5
  unfold refDg at h
  unfold dgc
  pointwise [k0_pay57, Cert.BwdReferenceIdeal.Gen.k0_pay11]
  rw [scal_eq, h]

/-- An entry of the up projection's gradient codes. -/
theorem duc_apply (x0 : Vec Ideal S1024x4096 .fp8e5m2) (x2 : Vec Ideal S256x4096 .bf16) (x3 x4 : Vec Ideal S1024x256 .f32)
    (x5 : Vec Ideal S1x256 .f32) (x6 : Vec Ideal S256x128 .f32) (s x d e u : Vec Ideal S1x1 .f32)
    (a1 : Vec Ideal Cert.BwdReferenceIdeal.S1024x4096 .fp8e4m3) (a2 : Vec Ideal Cert.BwdReferenceIdeal.S5504x4096 .bf16) (a3 a4 : Vec Ideal Cert.BwdReferenceIdeal.S1024x5504 .f32)
    (a5 : Vec Ideal Cert.BwdReferenceIdeal.S1x5504 .f32)
    (p : Fin 1024) (r : Fin 256) (z : Fin 5504)
    (h2 : ∀ q, x2 (ix2 r q) = a2 (ix2 z q)) (h6 : ∀ l, x6 (ix2 r l) = a5 (ix2 0 z))
    (h3 : x3 (ix2 p r) = a3 (ix2 p z)) (h5 : x5 (ix2 0 r) = a5 (ix2 0 z)) :
    duc x0 x2 x3 x5 x6 s d u (ix2 p r) = Cert.BwdReferenceIdeal.Gen.k0_pay13 (Cert.BwdReferenceIdeal.Gen.k0_pay15 x0 a1 a2 a3 a4 a5 s x d e u) a3 (Cert.BwdReferenceIdeal.Gen.k0_pay16 x0 a1 a2 a3 a4 a5 s x d e u) u (ix2 p z) := by
  have h := duk_apply x0 x2 x3 x4 x5 x6 s x d e u a1 a2 a3 a4 a5 p r z h2 h6 h3 h5
  unfold refDu at h
  unfold duc
  pointwise [k0_pay58, Cert.BwdReferenceIdeal.Gen.k0_pay13]
  rw [scal_eq, h]

/-- An entry of the gate weights' gradient. -/
theorem dwgk_apply (x0 : Vec Ideal S1024x4096 .fp8e5m2) (x2 : Vec Ideal S256x4096 .bf16) (x3 x4 : Vec Ideal S1024x256 .f32)
    (x5 : Vec Ideal S1x256 .f32) (x6 : Vec Ideal S256x128 .f32) (s x d e u : Vec Ideal S1x1 .f32)
    (a1 : Vec Ideal Cert.BwdReferenceIdeal.S1024x4096 .fp8e4m3) (a2 : Vec Ideal Cert.BwdReferenceIdeal.S5504x4096 .bf16) (a3 a4 : Vec Ideal Cert.BwdReferenceIdeal.S1024x5504 .f32)
    (a5 : Vec Ideal Cert.BwdReferenceIdeal.S1x5504 .f32) (x1 : Vec Ideal S4096x1024 .fp8e4m3)
    (q : Fin 4096) (r : Fin 256) (z : Fin 5504) (h1 : ∀ p, x1 (ix2 q p) = a1 (ix2 p q))
    (h2 : ∀ q, x2 (ix2 r q) = a2 (ix2 z q)) (h6 : ∀ l, x6 (ix2 r l) = a5 (ix2 0 z))
    (h3 : ∀ p, x3 (ix2 p r) = a3 (ix2 p z)) (h4 : ∀ p, x4 (ix2 p r) = a4 (ix2 p z)) (h5 : x5 (ix2 0 r) = a5 (ix2 0 z)) :
    dwgk x0 x1 x2 x3 x4 x5 x6 s x d e (ix2 q r) = Cert.BwdReferenceIdeal.Gen.k0_pay1 (Cert.BwdReferenceIdeal.Gen.k0_pay11 (Cert.BwdReferenceIdeal.Gen.k0_pay17 x0 a1 a2 a3 a4 a5 s x d e u) (Cert.BwdReferenceIdeal.Gen.k0_pay18 x0 a1 a2 a3 a4 a5 s x d e u) (Cert.BwdReferenceIdeal.Gen.k0_pay19 x0 a1 a2 a3 a4 a5 s x d e u) e) a1 x e (ix2 q z) := by
  have h := fun p => dgc_apply x0 x2 x3 x4 x5 x6 s x d e u a1 a2 a3 a4 a5 p r z h2 h6 (h3 p) (h4 p) h5
  unfold dgc at h
  unfold dwgk
  pointwise [k0_pay1, k0_pay59, Cert.BwdReferenceIdeal.Gen.k0_pay1]
  rw [scal_eq, scal_eq] at *
  rw [Finset.sum_congr rfl fun p _ => congrArg₂ (fun v w : EReal => v * w) (h1 p) (h p)]

/-- An entry of the up weights' gradient. -/
theorem dwuk_apply (x0 : Vec Ideal S1024x4096 .fp8e5m2) (x2 : Vec Ideal S256x4096 .bf16) (x3 x4 : Vec Ideal S1024x256 .f32)
    (x5 : Vec Ideal S1x256 .f32) (x6 : Vec Ideal S256x128 .f32) (s x d e u : Vec Ideal S1x1 .f32)
    (a1 : Vec Ideal Cert.BwdReferenceIdeal.S1024x4096 .fp8e4m3) (a2 : Vec Ideal Cert.BwdReferenceIdeal.S5504x4096 .bf16) (a3 a4 : Vec Ideal Cert.BwdReferenceIdeal.S1024x5504 .f32)
    (a5 : Vec Ideal Cert.BwdReferenceIdeal.S1x5504 .f32) (x1 : Vec Ideal S4096x1024 .fp8e4m3)
    (q : Fin 4096) (r : Fin 256) (z : Fin 5504) (h1 : ∀ p, x1 (ix2 q p) = a1 (ix2 p q))
    (h2 : ∀ q, x2 (ix2 r q) = a2 (ix2 z q)) (h6 : ∀ l, x6 (ix2 r l) = a5 (ix2 0 z))
    (h3 : ∀ p, x3 (ix2 p r) = a3 (ix2 p z)) (h5 : x5 (ix2 0 r) = a5 (ix2 0 z)) :
    dwuk x0 x1 x2 x3 x5 x6 s x d u (ix2 q r) = Cert.BwdReferenceIdeal.Gen.k0_pay2 (Cert.BwdReferenceIdeal.Gen.k0_pay13 (Cert.BwdReferenceIdeal.Gen.k0_pay15 x0 a1 a2 a3 a4 a5 s x d e u) a3 (Cert.BwdReferenceIdeal.Gen.k0_pay16 x0 a1 a2 a3 a4 a5 s x d e u) u) a1 x u (ix2 q z) := by
  have h := fun p => duc_apply x0 x2 x3 x4 x5 x6 s x d e u a1 a2 a3 a4 a5 p r z h2 h6 (h3 p) h5
  unfold dwuk
  pointwise [k0_pay2, Cert.BwdReferenceIdeal.Gen.k0_pay2]
  rw [scal_eq, scal_eq]
  rw [Finset.sum_congr rfl fun p _ => congrArg₂ (fun v w : EReal => v * w) (h1 p) (h p)]

end Cert.BwdIdeal.Body

end
-- ==== Proof.BwdIdealMax.lean ====
/- The two running maxima of `BwdIdeal`: what their scratch buffers hold after some of the points, and the reference's
   maxima. -/
module

public import proofs.«01_k».proof.Proof.BwdIdealEntries
public import proofs.«01_k».proof.Proof.Gen.BwdReferenceIdeal.Value
public import proofs.«01_k».proof.Proof.MaxFold
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.BwdIdeal.Body

open Cert.BwdIdeal Cert.BwdIdeal.Gen

/-- The mask of the last block's columns that are past the array's end. -/
theorem mask_eq : ∀ (n : Fin 22) (q : Fin 256),
    IntOp.cmpi CmpIPredicate.slt (IntOp.addi (Scalar.muli (BitVec.ofNat 32 n.val) 256#32) (BitVec.ofNat 32 q.val)) 5504#32
      = if n.val * 256 + q.val < 5504 then 1#1 else 0#1 := by
  decide +kernel

/-- A masked value being at most `b`, for `b` not negative. -/
theorem sel_le (n q : ℕ) (hn : n < 22) (hq : q < 256) (X b : EReal) (hb : 0 ≤ b) :
    Scalar.select (IntOp.cmpi CmpIPredicate.slt (IntOp.addi (Scalar.muli (BitVec.ofNat 32 n) 256#32) (BitVec.ofNat 32 q)) 5504#32) X 0 ≤ b
      ↔ (n * 256 + q < 5504 → X ≤ b) := by
  rw [mask_eq ⟨n, hn⟩ ⟨q, hq⟩]
  dsimp only
  by_cases h : n * 256 + q < 5504
  · rw [if_pos h]; simp [Scalar.select, h]
  · rw [if_neg h]; simp [Scalar.select, h, hb]

/-- What one point's step of a maximum being at most `b` says. -/
def Step (n : ℕ) (g : FVec Ideal S1024x256 .f32) (v : Vec Ideal S8x128 .f32) (a : Fin 8) (l : Fin 128) (b : EReal) : Prop :=
  v (ix2 a l) ≤ b ∧
      (∀ (x : Fin 128),
          Scalar.select
              (IntOp.cmpi CmpIPredicate.slt
                (IntOp.addi (Scalar.muli (BitVec.ofNat 32 n) 256#32) (BitVec.ofNat 32 l.val)) 5504#32)
              (FloatOps.absf (F := Ideal) (φ := .f32) (g (ix2 ⟨x.val * 8 + a.val, by omega⟩ ⟨l.val, by omega⟩))) 0 ≤ b) ∧
        ∀ (x : Fin 128),
          Scalar.select
              (IntOp.cmpi CmpIPredicate.slt
                (IntOp.addi (Scalar.muli (BitVec.ofNat 32 n) 256#32) (BitVec.ofNat 32 (128 + l.val))) 5504#32)
              (FloatOps.absf (F := Ideal) (φ := .f32) (g (ix2 ⟨x.val * 8 + a.val, by omega⟩ ⟨128 + l.val, by omega⟩))) 0 ≤ b

/-- A point's step of the maximum: at most `b` when what it found is and its masked values are. -/
theorem gmk_le (i : grid0.Coords) (x0 : Vec Ideal S1024x4096 .fp8e5m2) (x2 : Vec Ideal S256x4096 .bf16) (x3 x4 : Vec Ideal S1024x256 .f32)
    (x5 : Vec Ideal S1x256 .f32) (x6 : Vec Ideal S256x128 .f32) (s d : Vec Ideal S1x1 .f32) (v : Vec Ideal S8x128 .f32) (a : Fin 8) (l : Fin 128) (b : EReal) :
    gmk i x0 x2 x3 x4 x5 x6 s d v (ix2 a l) ≤ b ↔ Step (i 0).val (dgk x0 x2 x3 x4 x5 x6 s d) v a l b := by
  unfold gmk k0_pay55 Step
  rw [show k0_pay52 (F := Ideal) (scal s) (dhk x0 x2 x6 s) (scal d) x5 x3 x4 = dgk x0 x2 x3 x4 x5 x6 s d from rfl]
  pointwise [k0_pay54]
  simp only [max_le_iff, MaxFold.fold_le, Finset.mem_univ, forall_true_left]

/-- A point's step of the maximum: at most `b` when what it found is and its masked values are. -/
theorem umk_le (i : grid0.Coords) (x0 : Vec Ideal S1024x4096 .fp8e5m2) (x2 : Vec Ideal S256x4096 .bf16) (x3 : Vec Ideal S1024x256 .f32)
    (x5 : Vec Ideal S1x256 .f32) (x6 : Vec Ideal S256x128 .f32) (s d : Vec Ideal S1x1 .f32) (v : Vec Ideal S8x128 .f32) (a : Fin 8) (l : Fin 128) (b : EReal) :
    umk i x0 x2 x3 x5 x6 s d v (ix2 a l) ≤ b ↔ Step (i 0).val (duk x0 x2 x3 x5 x6 s d) v a l b := by
  unfold umk k0_pay56 Step
  pointwise [k0_pay54]
  simp only [max_le_iff, MaxFold.fold_le, Finset.mem_univ, forall_true_left]

/-- What a scratch buffer holds after the first `n` points: in each cell the maximum of zero and of the absolute values in
    the first `n` column blocks that fall to it. -/
def Inv (f : Fin 1024 → Fin 5504 → EReal) (n : ℕ) (v : Vec Ideal S8x128 .f32) : Prop :=
  ∀ (a : Fin 8) (l : Fin 128) (b : EReal), v (ix2 a l) ≤ b ↔
    0 ≤ b ∧ ∀ (p : Fin 1024) (z : Fin 5504), p.val % 8 = a.val → z.val % 128 = l.val → z.val / 256 < n →
      FloatOps.absf (F := Ideal) (φ := .f32) (f p z) ≤ b

/-- Zeros before the first point. -/
theorem inv_zero (f : Fin 1024 → Fin 5504 → EReal) (v : Vec Ideal S8x128 .f32) (hv : ∀ a l, v (ix2 a l) = (0 : EReal)) : Inv f 0 v := by
  intro a l b
  rw [hv a l]
  exact ⟨fun h => ⟨h, fun p z _ _ hz => absurd hz (Nat.not_lt_zero _)⟩, fun h => h.1⟩

theorem pay5_zero (a : Fin 8) (l : Fin 128) : k0_pay5 (F := Ideal) (ix2 a l) = (0 : EReal) := by
  unfold k0_pay5
  pointwise

theorem pay6_zero (a : Fin 8) (l : Fin 128) : k0_pay6 (F := Ideal) (ix2 a l) = (0 : EReal) := by
  unfold k0_pay6
  pointwise

/-- A point's step keeps it, one block further. -/
theorem inv_step (f : Fin 1024 → Fin 5504 → EReal) (n : ℕ) (hn : n < 22) (g : FVec Ideal S1024x256 .f32)
    (hg : ∀ (p : Fin 1024) (r : Fin 256) (z : Fin 5504), z.val = n * 256 + r.val → g (ix2 p r) = f p z)
    (v w : Vec Ideal S8x128 .f32) (hv : Inv f n v) (hw : ∀ a l b, w (ix2 a l) ≤ b ↔ Step n g v a l b) : Inv f (n + 1) w := by
  intro a l b
  rw [hw a l b]
  unfold Step
  rw [hv a l b]
  have ha := a.isLt
  have hl := l.isLt
  constructor
  · rintro ⟨⟨hb, h0⟩, h1, h2⟩
    refine ⟨hb, fun p z hp hz hzn => ?_⟩
    have hpp := p.isLt
    have hzz := z.isLt
    rcases Nat.lt_or_ge (z.val / 256) n with h | h
    · exact h0 p z hp hz h
    · have hp' : (⟨p.val / 8 * 8 + a.val, by omega⟩ : Fin 1024) = p := Fin.ext (by dsimp only; omega)
      rcases Nat.lt_or_ge (z.val % 256) 128 with hc | hc
      · have e := (sel_le n l.val hn (by omega) _ b hb).mp (h1 ⟨p.val / 8, by omega⟩) (by omega)
        rw [hg _ _ z (by dsimp only; omega)] at e
        rwa [hp'] at e
      · have e := (sel_le n (128 + l.val) hn (by omega) _ b hb).mp (h2 ⟨p.val / 8, by omega⟩) (by omega)
        rw [hg _ _ z (by dsimp only; omega)] at e
        rwa [hp'] at e
  · rintro ⟨hb, h⟩
    refine ⟨⟨hb, fun p z hp hz hzn => h p z hp hz (by omega)⟩, fun x => ?_, fun x => ?_⟩
    · refine (sel_le n l.val hn (by omega) _ b hb).mpr fun hlt => ?_
      rw [hg _ _ ⟨n * 256 + l.val, hlt⟩ rfl]
      exact h _ _ (by dsimp only; omega) (by dsimp only; omega) (by dsimp only; omega)
    · refine (sel_le n (128 + l.val) hn (by omega) _ b hb).mpr fun hlt => ?_
      rw [hg _ _ ⟨n * 256 + (128 + l.val), hlt⟩ rfl]
      exact h _ _ (by dsimp only; omega) (by dsimp only; omega) (by dsimp only; omega)

/-- The maximum over a scratch buffer. -/
theorem pay3_le (v : Vec Ideal S8x128 .f32) (b : EReal) : k0_pay3 (F := Ideal) v ≤ b ↔ ∀ (s : Fin 8) (l : Fin 128), v (ix2 s l) ≤ b := by
  unfold k0_pay3
  pointwise
  rw [MaxFold.fold_le]
  exact ⟨fun h s l => h (s, l) (Finset.mem_univ _), fun h x _ => h x.1 x.2⟩

/-- The reference's maximum. -/
theorem ref_pay12_le (g h k : FVec Ideal Cert.BwdReferenceIdeal.S1024x5504 .f32) (j : Cert.BwdReferenceIdeal.S1x1.Idx) (b : EReal) :
    Cert.BwdReferenceIdeal.Gen.k0_pay12 (F := Ideal) g h k j ≤ b ↔ ∀ (p : Fin 1024) (q : Fin 5504), FloatOps.absf (F := Ideal) (φ := .f32) (Cert.BwdReferenceIdeal.Gen.k0_pay9 g h k (ix2 p q)) ≤ b := by
  unfold Cert.BwdReferenceIdeal.Gen.k0_pay12
  pointwise
  rw [MaxFold.fold_le]
  exact ⟨fun h s l => h (s, l) (Finset.mem_univ _), fun h x _ => h x.1 x.2⟩

/-- After all the points the maximum over the scratch buffer is the reference's. -/
theorem pay3_eq (g h k : FVec Ideal Cert.BwdReferenceIdeal.S1024x5504 .f32) (v : Vec Ideal S8x128 .f32) (hv : Inv (fun p z => Cert.BwdReferenceIdeal.Gen.k0_pay9 g h k (ix2 p z)) 22 v) (j : Cert.BwdReferenceIdeal.S1x1.Idx) :
    k0_pay3 (F := Ideal) v = Cert.BwdReferenceIdeal.Gen.k0_pay12 (F := Ideal) g h k j := by
  refine eq_of_forall_ge_iff fun b => ?_
  rw [pay3_le, ref_pay12_le]
  constructor
  · intro H p z
    have hp := p.isLt
    have hz := z.isLt
    exact ((hv ⟨p.val % 8, by omega⟩ ⟨z.val % 128, by omega⟩ b).mp (H _ _)).2 p z rfl rfl (by omega)
  · intro H a l
    exact (hv a l b).mpr ⟨le_trans (MaxFold.absf_nonneg _) (H 0 0), fun p z _ _ _ => H p z⟩

/-- The maximum over a scratch buffer. -/
theorem pay4_le (v : Vec Ideal S8x128 .f32) (b : EReal) : k0_pay4 (F := Ideal) v ≤ b ↔ ∀ (s : Fin 8) (l : Fin 128), v (ix2 s l) ≤ b := by
  unfold k0_pay4
  pointwise
  rw [MaxFold.fold_le]
  exact ⟨fun h s l => h (s, l) (Finset.mem_univ _), fun h x _ => h x.1 x.2⟩

/-- The reference's maximum. -/
theorem ref_pay14_le (g : FVec Ideal Cert.BwdReferenceIdeal.S1024x5504 .f32) (h : Vec Ideal Cert.BwdReferenceIdeal.S1024x5504 .f32) (k : FVec Ideal Cert.BwdReferenceIdeal.S1024x5504 .f32) (j : Cert.BwdReferenceIdeal.S1x1.Idx) (b : EReal) :
    Cert.BwdReferenceIdeal.Gen.k0_pay14 (F := Ideal) g h k j ≤ b ↔ ∀ (p : Fin 1024) (q : Fin 5504), FloatOps.absf (F := Ideal) (φ := .f32) (Cert.BwdReferenceIdeal.Gen.k0_pay10 g h k (ix2 p q)) ≤ b := by
  unfold Cert.BwdReferenceIdeal.Gen.k0_pay14
  pointwise
  rw [MaxFold.fold_le]
  exact ⟨fun h s l => h (s, l) (Finset.mem_univ _), fun h x _ => h x.1 x.2⟩

/-- After all the points the maximum over the scratch buffer is the reference's. -/
theorem pay4_eq (g : FVec Ideal Cert.BwdReferenceIdeal.S1024x5504 .f32) (h : Vec Ideal Cert.BwdReferenceIdeal.S1024x5504 .f32) (k : FVec Ideal Cert.BwdReferenceIdeal.S1024x5504 .f32) (v : Vec Ideal S8x128 .f32) (hv : Inv (fun p z => Cert.BwdReferenceIdeal.Gen.k0_pay10 g h k (ix2 p z)) 22 v) (j : Cert.BwdReferenceIdeal.S1x1.Idx) :
    k0_pay4 (F := Ideal) v = Cert.BwdReferenceIdeal.Gen.k0_pay14 (F := Ideal) g h k j := by
  refine eq_of_forall_ge_iff fun b => ?_
  rw [pay4_le, ref_pay14_le]
  constructor
  · intro H p z
    have hp := p.isLt
    have hz := z.isLt
    exact ((hv ⟨p.val % 8, by omega⟩ ⟨z.val % 128, by omega⟩ b).mp (H _ _)).2 p z rfl rfl (by omega)
  · intro H a l
    exact (hv a l b).mpr ⟨le_trans (MaxFold.absf_nonneg _) (H 0 0), fun p z _ _ _ => H p z⟩

end Cert.BwdIdeal.Body

end
-- ==== Proof.BwdIdealCuts.lean ====
/- The part of an output block of the call `bwd` inside its array, from its entries there. -/
module

public import proofs.«01_k».proof.Proof.BwdIdealEntries
public import proofs.«01_k».proof.Proof.Gen.BwdIdeal.Frame

@[expose] public section

set_option maxRecDepth 16384

noncomputable section

open Idealize.ShloMosaic Idealize.ShloMosaic.TcCoe Idealize.SL.Sem
open Idealize.ShloMosaic.Pipeline (Dat Cfg Window)

namespace Cert.BwdIdeal.Result

open Cert.BwdIdeal Cert.BwdIdeal.Gen Cert.BwdIdeal.Body

/-- Which block of its array every window has at point `t`. -/
theorem idx : ∀ t : Fin cfg0.N, win0_0.index t = ![0, 0] ∧ win0_1.index t = ![0, 0] ∧ win0_2.index t = ![t.val, 0] ∧ win0_3.index t = ![0, t.val] ∧ win0_4.index t = ![0, t.val] ∧ win0_5.index t = ![0, t.val] ∧ win0_6.index t = ![t.val, 0] ∧ win0_7.index t = ![0, 0] ∧ win0_8.index t = ![0, 0] ∧ win0_9.index t = ![0, 0] ∧ win0_10.index t = ![0, 0] ∧ win0_11.index t = ![0, 0] ∧ win0_12.index t = ![t.val, 0] ∧ win0_13.index t = ![0, t.val] ∧ win0_14.index t = ![0, t.val] ∧ win0_15.index t = ![0, t.val] ∧ win0_16.index t = ![0, t.val] ∧ win0_17.index t = ![0, 0] ∧ win0_18.index t = ![0, 0] ∧ t.val < 22 :=
  (by decide +kernel : ∀ t : Fin grid0.N, _)

/-- How much of window 12's block lies inside its array. -/
theorem sz12 : ∀ t : Fin cfg0.N, win0_12.xsize (grid0.coords t) = ![min 256 (5504 - t.val * 256), 4096] :=
  (by decide +kernel : ∀ t : Fin grid0.N, _)

/-- How much of window 13's block lies inside its array. -/
theorem sz13 : ∀ t : Fin cfg0.N, win0_13.xsize (grid0.coords t) = ![1024, min 256 (5504 - t.val * 256)] :=
  (by decide +kernel : ∀ t : Fin grid0.N, _)

/-- How much of window 14's block lies inside its array. -/
theorem sz14 : ∀ t : Fin cfg0.N, win0_14.xsize (grid0.coords t) = ![1024, min 256 (5504 - t.val * 256)] :=
  (by decide +kernel : ∀ t : Fin grid0.N, _)

/-- How much of window 15's block lies inside its array. -/
theorem sz15 : ∀ t : Fin cfg0.N, win0_15.xsize (grid0.coords t) = ![4096, min 256 (5504 - t.val * 256)] :=
  (by decide +kernel : ∀ t : Fin grid0.N, _)

/-- How much of window 16's block lies inside its array. -/
theorem sz16 : ∀ t : Fin cfg0.N, win0_16.xsize (grid0.coords t) = ![4096, min 256 (5504 - t.val * 256)] :=
  (by decide +kernel : ∀ t : Fin grid0.N, _)

set_option maxHeartbeats 8000000 in
/-- Output 0's block, inside the array. -/
theorem cut12 (t : Fin cfg0.N) (X : Vec Ideal S256x4096 .fp8e4m3) (G : Vec Ideal Cert.BwdReferenceIdeal.S5504x4096 .fp8e4m3)
    (h : ∀ (r : Fin 256) (q : Fin 4096) (z : Fin 5504), z.val = t.val * 256 + r.val → X (ix2 r q) = G (ix2 z q)) :
    (cfg0.win 12).cut (cfg0.grid.coords t) X = ((cfg0.win 12).blk t).view.read (Elt Ideal) G := by
  have hs := sz12 t
  funext y
  have ha : (y (0 : Fin 2)).val < min 256 (5504 - t.val * 256) := lt_of_lt_of_eq (y (0 : Fin 2)).isLt (congrFun hs (0 : Fin 2))
  have hb : (y (1 : Fin 2)).val < 4096 := lt_of_lt_of_eq (y (1 : Fin 2)).isLt (congrFun hs (1 : Fin 2))
  have hN := (idx t).2.2.2.2.2.2.2.2.2.2.2.2.2.2.2.2.2.2.2
  have hi : win0_12.index t = ![t.val, 0] := (idx t).2.2.2.2.2.2.2.2.2.2.2.2.1
  have hr : (y (0 : Fin 2)).val < 256 := by omega
  have hz : t.val * 256 + (y (0 : Fin 2)).val < 5504 := by omega
  have h' := h ⟨(y (0 : Fin 2)).val, hr⟩ ⟨(y (1 : Fin 2)).val, hb⟩ ⟨_, hz⟩ rfl
  refine Eq.trans (congrArg X ?_) (h'.trans ?_)
  · funext a; apply Fin.ext
    match a with
    | ⟨0, _⟩ => rfl
    | ⟨1, _⟩ => rfl
  · blk_simp
    refine congrArg G (funext fun a => Fin.ext ?_)
    match a with
    | ⟨0, _⟩ =>
      refine ((Pipeline.Window.rect_emb_val win0_12 t y (0 : Fin 2)).trans ?_).symm
      rw [hi]
      show t.val * 256 + (y (0 : Fin 2)).val = t.val * 256 + (y (0 : Fin 2)).val; rfl
    | ⟨1, _⟩ => exact (Pipeline.Window.rect_emb_val_of_index_zero win0_12 t (1 : Fin 2) (congrFun hi (1 : Fin 2)) y).symm

set_option maxHeartbeats 8000000 in
/-- Output 1's block, inside the array. -/
theorem cut13 (t : Fin cfg0.N) (X : Vec Ideal S1024x256 .fp8e5m2) (G : Vec Ideal Cert.BwdReferenceIdeal.S1024x5504 .fp8e5m2)
    (h : ∀ (r : Fin 256) (q : Fin 1024) (z : Fin 5504), z.val = t.val * 256 + r.val → X (ix2 q r) = G (ix2 q z)) :
    (cfg0.win 13).cut (cfg0.grid.coords t) X = ((cfg0.win 13).blk t).view.read (Elt Ideal) G := by
  have hs := sz13 t
  funext y
  have ha : (y (0 : Fin 2)).val < 1024 := lt_of_lt_of_eq (y (0 : Fin 2)).isLt (congrFun hs (0 : Fin 2))
  have hb : (y (1 : Fin 2)).val < min 256 (5504 - t.val * 256) := lt_of_lt_of_eq (y (1 : Fin 2)).isLt (congrFun hs (1 : Fin 2))
  have hN := (idx t).2.2.2.2.2.2.2.2.2.2.2.2.2.2.2.2.2.2.2
  have hi : win0_13.index t = ![0, t.val] := (idx t).2.2.2.2.2.2.2.2.2.2.2.2.2.1
  have hr : (y (1 : Fin 2)).val < 256 := by omega
  have hz : t.val * 256 + (y (1 : Fin 2)).val < 5504 := by omega
  have h' := h ⟨(y (1 : Fin 2)).val, hr⟩ ⟨(y (0 : Fin 2)).val, ha⟩ ⟨_, hz⟩ rfl
  refine Eq.trans (congrArg X ?_) (h'.trans ?_)
  · funext a; apply Fin.ext
    match a with
    | ⟨0, _⟩ => rfl
    | ⟨1, _⟩ => rfl
  · blk_simp
    refine congrArg G (funext fun a => Fin.ext ?_)
    match a with
    | ⟨0, _⟩ => exact (Pipeline.Window.rect_emb_val_of_index_zero win0_13 t (0 : Fin 2) (congrFun hi (0 : Fin 2)) y).symm
    | ⟨1, _⟩ =>
      refine ((Pipeline.Window.rect_emb_val win0_13 t y (1 : Fin 2)).trans ?_).symm
      rw [hi]
      show t.val * 256 + (y (1 : Fin 2)).val = t.val * 256 + (y (1 : Fin 2)).val; rfl

set_option maxHeartbeats 8000000 in
/-- Output 2's block, inside the array. -/
theorem cut14 (t : Fin cfg0.N) (X : Vec Ideal S1024x256 .fp8e5m2) (G : Vec Ideal Cert.BwdReferenceIdeal.S1024x5504 .fp8e5m2)
    (h : ∀ (r : Fin 256) (q : Fin 1024) (z : Fin 5504), z.val = t.val * 256 + r.val → X (ix2 q r) = G (ix2 q z)) :
    (cfg0.win 14).cut (cfg0.grid.coords t) X = ((cfg0.win 14).blk t).view.read (Elt Ideal) G := by
  have hs := sz14 t
  funext y
  have ha : (y (0 : Fin 2)).val < 1024 := lt_of_lt_of_eq (y (0 : Fin 2)).isLt (congrFun hs (0 : Fin 2))
  have hb : (y (1 : Fin 2)).val < min 256 (5504 - t.val * 256) := lt_of_lt_of_eq (y (1 : Fin 2)).isLt (congrFun hs (1 : Fin 2))
  have hN := (idx t).2.2.2.2.2.2.2.2.2.2.2.2.2.2.2.2.2.2.2
  have hi : win0_14.index t = ![0, t.val] := (idx t).2.2.2.2.2.2.2.2.2.2.2.2.2.2.1
  have hr : (y (1 : Fin 2)).val < 256 := by omega
  have hz : t.val * 256 + (y (1 : Fin 2)).val < 5504 := by omega
  have h' := h ⟨(y (1 : Fin 2)).val, hr⟩ ⟨(y (0 : Fin 2)).val, ha⟩ ⟨_, hz⟩ rfl
  refine Eq.trans (congrArg X ?_) (h'.trans ?_)
  · funext a; apply Fin.ext
    match a with
    | ⟨0, _⟩ => rfl
    | ⟨1, _⟩ => rfl
  · blk_simp
    refine congrArg G (funext fun a => Fin.ext ?_)
    match a with
    | ⟨0, _⟩ => exact (Pipeline.Window.rect_emb_val_of_index_zero win0_14 t (0 : Fin 2) (congrFun hi (0 : Fin 2)) y).symm
    | ⟨1, _⟩ =>
      refine ((Pipeline.Window.rect_emb_val win0_14 t y (1 : Fin 2)).trans ?_).symm
      rw [hi]
      show t.val * 256 + (y (1 : Fin 2)).val = t.val * 256 + (y (1 : Fin 2)).val; rfl

set_option maxHeartbeats 8000000 in
/-- Output 3's block, inside the array. -/
theorem cut15 (t : Fin cfg0.N) (X : Vec Ideal S4096x256 .bf16) (G : Vec Ideal Cert.BwdReferenceIdeal.S4096x5504 .bf16)
    (h : ∀ (r : Fin 256) (q : Fin 4096) (z : Fin 5504), z.val = t.val * 256 + r.val → X (ix2 q r) = G (ix2 q z)) :
    (cfg0.win 15).cut (cfg0.grid.coords t) X = ((cfg0.win 15).blk t).view.read (Elt Ideal) G := by
  have hs := sz15 t
  funext y
  have ha : (y (0 : Fin 2)).val < 4096 := lt_of_lt_of_eq (y (0 : Fin 2)).isLt (congrFun hs (0 : Fin 2))
  have hb : (y (1 : Fin 2)).val < min 256 (5504 - t.val * 256) := lt_of_lt_of_eq (y (1 : Fin 2)).isLt (congrFun hs (1 : Fin 2))
  have hN := (idx t).2.2.2.2.2.2.2.2.2.2.2.2.2.2.2.2.2.2.2
  have hi : win0_15.index t = ![0, t.val] := (idx t).2.2.2.2.2.2.2.2.2.2.2.2.2.2.2.1
  have hr : (y (1 : Fin 2)).val < 256 := by omega
  have hz : t.val * 256 + (y (1 : Fin 2)).val < 5504 := by omega
  have h' := h ⟨(y (1 : Fin 2)).val, hr⟩ ⟨(y (0 : Fin 2)).val, ha⟩ ⟨_, hz⟩ rfl
  refine Eq.trans (congrArg X ?_) (h'.trans ?_)
  · funext a; apply Fin.ext
    match a with
    | ⟨0, _⟩ => rfl
    | ⟨1, _⟩ => rfl
  · blk_simp
    refine congrArg G (funext fun a => Fin.ext ?_)
    match a with
    | ⟨0, _⟩ => exact (Pipeline.Window.rect_emb_val_of_index_zero win0_15 t (0 : Fin 2) (congrFun hi (0 : Fin 2)) y).symm
    | ⟨1, _⟩ =>
      refine ((Pipeline.Window.rect_emb_val win0_15 t y (1 : Fin 2)).trans ?_).symm
      rw [hi]
      show t.val * 256 + (y (1 : Fin 2)).val = t.val * 256 + (y (1 : Fin 2)).val; rfl

set_option maxHeartbeats 8000000 in
/-- Output 4's block, inside the array. -/
theorem cut16 (t : Fin cfg0.N) (X : Vec Ideal S4096x256 .bf16) (G : Vec Ideal Cert.BwdReferenceIdeal.S4096x5504 .bf16)
    (h : ∀ (r : Fin 256) (q : Fin 4096) (z : Fin 5504), z.val = t.val * 256 + r.val → X (ix2 q r) = G (ix2 q z)) :
    (cfg0.win 16).cut (cfg0.grid.coords t) X = ((cfg0.win 16).blk t).view.read (Elt Ideal) G := by
  have hs := sz16 t
  funext y
  have ha : (y (0 : Fin 2)).val < 4096 := lt_of_lt_of_eq (y (0 : Fin 2)).isLt (congrFun hs (0 : Fin 2))
  have hb : (y (1 : Fin 2)).val < min 256 (5504 - t.val * 256) := lt_of_lt_of_eq (y (1 : Fin 2)).isLt (congrFun hs (1 : Fin 2))
  have hN := (idx t).2.2.2.2.2.2.2.2.2.2.2.2.2.2.2.2.2.2.2
  have hi : win0_16.index t = ![0, t.val] := (idx t).2.2.2.2.2.2.2.2.2.2.2.2.2.2.2.2.1
  have hr : (y (1 : Fin 2)).val < 256 := by omega
  have hz : t.val * 256 + (y (1 : Fin 2)).val < 5504 := by omega
  have h' := h ⟨(y (1 : Fin 2)).val, hr⟩ ⟨(y (0 : Fin 2)).val, ha⟩ ⟨_, hz⟩ rfl
  refine Eq.trans (congrArg X ?_) (h'.trans ?_)
  · funext a; apply Fin.ext
    match a with
    | ⟨0, _⟩ => rfl
    | ⟨1, _⟩ => rfl
  · blk_simp
    refine congrArg G (funext fun a => Fin.ext ?_)
    match a with
    | ⟨0, _⟩ => exact (Pipeline.Window.rect_emb_val_of_index_zero win0_16 t (0 : Fin 2) (congrFun hi (0 : Fin 2)) y).symm
    | ⟨1, _⟩ =>
      refine ((Pipeline.Window.rect_emb_val win0_16 t y (1 : Fin 2)).trans ?_).symm
      rw [hi]
      show t.val * 256 + (y (1 : Fin 2)).val = t.val * 256 + (y (1 : Fin 2)).val; rfl

end Cert.BwdIdeal.Result

end
-- ==== Proof.BwdIdealAgree.lean ====
/- What the blocks the call `bwd` stages hold, and what its output blocks therefore hold, against the arrays of
   arguments: the blocks at the last point overhang their arrays, so each fact is about the part inside. -/
module

public import proofs.«01_k».proof.Proof.BwdIdealMax
public import proofs.«01_k».proof.Proof.BwdIdealCuts
public import proofs.«01_k».proof.Proof.Gen.BwdIdeal.Frame

@[expose] public section

set_option maxRecDepth 16384

noncomputable section

open Idealize.ShloMosaic Idealize.ShloMosaic.TcCoe Idealize.SL.Sem
open Idealize.ShloMosaic.Pipeline (Dat Cfg Window)

namespace Cert.BwdIdeal.Result

open Cert.BwdIdeal Cert.BwdIdeal.Gen Cert.BwdIdeal.Body

variable (m : (ℓ : Loc nD τ sig) → Buf (Elt Ideal) ℓ)

/-- How much of window 2's block lies inside its array. -/
theorem sz2 : ∀ t : Fin cfg0.N, win0_2.xsize (grid0.coords t) = ![min 256 (5504 - t.val * 256), 4096] :=
  (by decide +kernel : ∀ t : Fin grid0.N, _)

/-- How much of window 3's block lies inside its array. -/
theorem sz3 : ∀ t : Fin cfg0.N, win0_3.xsize (grid0.coords t) = ![1024, min 256 (5504 - t.val * 256)] :=
  (by decide +kernel : ∀ t : Fin grid0.N, _)

/-- How much of window 4's block lies inside its array. -/
theorem sz4 : ∀ t : Fin cfg0.N, win0_4.xsize (grid0.coords t) = ![1024, min 256 (5504 - t.val * 256)] :=
  (by decide +kernel : ∀ t : Fin grid0.N, _)

/-- How much of window 5's block lies inside its array. -/
theorem sz5 : ∀ t : Fin cfg0.N, win0_5.xsize (grid0.coords t) = ![1, min 256 (5504 - t.val * 256)] :=
  (by decide +kernel : ∀ t : Fin grid0.N, _)

/-- How much of window 6's block lies inside its array. -/
theorem sz6 : ∀ t : Fin cfg0.N, win0_6.xsize (grid0.coords t) = ![min 256 (5504 - t.val * 256), 128] :=
  (by decide +kernel : ∀ t : Fin grid0.N, _)

/-- An entry of window 2's block, inside the array. -/
theorem fill2 (c : Dev nD) (t : Fin cfg0.N) (d) (r : Fin 256) (q : Fin 4096) (z : Fin 5504) (hz : z.val = t.val * 256 + r.val) :
    (cfg0.win 2).fill (cfg0.grid.coords t) d (iblk m c 2 t) (ix2 r q) = (m ((c : Thread nD τ).loc main_arg2)) (ix2 z q) := by
  have hz' := z.isLt
  unfold Window.fill
  rw [dif_pos (((cfg0.win 2).moved_iff _ _).mpr (by
    intro a
    match a with
    | ⟨0, _⟩ => show _ < win0_2.xsize (grid0.coords t) ⟨0, by decide⟩; rw [sz2 t]; show r.val < min 256 (5504 - t.val * 256); omega
    | ⟨1, _⟩ => show _ < win0_2.xsize (grid0.coords t) ⟨1, by decide⟩; rw [sz2 t]; exact (q).isLt))]
  blk_point [iblk, V, idx t]

/-- An entry of window 3's block, inside the array. -/
theorem fill3 (c : Dev nD) (t : Fin cfg0.N) (d) (r : Fin 256) (p : Fin 1024) (z : Fin 5504) (hz : z.val = t.val * 256 + r.val) :
    (cfg0.win 3).fill (cfg0.grid.coords t) d (iblk m c 3 t) (ix2 p r) = (m ((c : Thread nD τ).loc main_arg3)) (ix2 p z) := by
  have hz' := z.isLt
  unfold Window.fill
  rw [dif_pos (((cfg0.win 3).moved_iff _ _).mpr (by
    intro a
    match a with
    | ⟨0, _⟩ => show _ < win0_3.xsize (grid0.coords t) ⟨0, by decide⟩; rw [sz3 t]; exact (p).isLt
    | ⟨1, _⟩ => show _ < win0_3.xsize (grid0.coords t) ⟨1, by decide⟩; rw [sz3 t]; show r.val < min 256 (5504 - t.val * 256); omega))]
  blk_point [iblk, V, idx t]

/-- An entry of window 4's block, inside the array. -/
theorem fill4 (c : Dev nD) (t : Fin cfg0.N) (d) (r : Fin 256) (p : Fin 1024) (z : Fin 5504) (hz : z.val = t.val * 256 + r.val) :
    (cfg0.win 4).fill (cfg0.grid.coords t) d (iblk m c 4 t) (ix2 p r) = (m ((c : Thread nD τ).loc main_arg4)) (ix2 p z) := by
  have hz' := z.isLt
  unfold Window.fill
  rw [dif_pos (((cfg0.win 4).moved_iff _ _).mpr (by
    intro a
    match a with
    | ⟨0, _⟩ => show _ < win0_4.xsize (grid0.coords t) ⟨0, by decide⟩; rw [sz4 t]; exact (p).isLt
    | ⟨1, _⟩ => show _ < win0_4.xsize (grid0.coords t) ⟨1, by decide⟩; rw [sz4 t]; show r.val < min 256 (5504 - t.val * 256); omega))]
  blk_point [iblk, V, idx t]

/-- An entry of window 5's block, inside the array. -/
theorem fill5 (c : Dev nD) (t : Fin cfg0.N) (d) (r : Fin 256)  (z : Fin 5504) (hz : z.val = t.val * 256 + r.val) :
    (cfg0.win 5).fill (cfg0.grid.coords t) d (iblk m c 5 t) (ix2 (0 : Fin 1) r) = (m ((c : Thread nD τ).loc main_arg5)) (ix2 0 z) := by
  have hz' := z.isLt
  unfold Window.fill
  rw [dif_pos (((cfg0.win 5).moved_iff _ _).mpr (by
    intro a
    match a with
    | ⟨0, _⟩ => show _ < win0_5.xsize (grid0.coords t) ⟨0, by decide⟩; rw [sz5 t]; exact ((0 : Fin 1)).isLt
    | ⟨1, _⟩ => show _ < win0_5.xsize (grid0.coords t) ⟨1, by decide⟩; rw [sz5 t]; show r.val < min 256 (5504 - t.val * 256); omega))]
  blk_point [iblk, V, idx t]

/-- An entry of window 6's block, inside the array. -/
theorem fill6 (c : Dev nD) (t : Fin cfg0.N) (d) (r : Fin 256) (l : Fin 128) (z : Fin 5504) (hz : z.val = t.val * 256 + r.val) :
    (cfg0.win 6).fill (cfg0.grid.coords t) d (iblk m c 6 t) (ix2 r l) = (m ((c : Thread nD τ).loc main_arg5)) (ix2 0 z) := by
  have hz' := z.isLt
  unfold Window.fill
  rw [dif_pos (((cfg0.win 6).moved_iff _ _).mpr (by
    intro a
    match a with
    | ⟨0, _⟩ => show _ < win0_6.xsize (grid0.coords t) ⟨0, by decide⟩; rw [sz6 t]; show r.val < min 256 (5504 - t.val * 256); omega
    | ⟨1, _⟩ => show _ < win0_6.xsize (grid0.coords t) ⟨1, by decide⟩; rw [sz6 t]; exact (l).isLt))]
  blk_point [iblk, V, idx t]

/-- Window 1's block is the transposed array. -/
theorem blk1 (c : Dev nD) (t : Fin cfg0.N) (q : Fin 4096) (p : Fin 1024) : iblk m c 1 t (ix2 q p) = (m ((c : Thread nD τ).loc main_arg1)) (ix2 p q) := by
  blk_point [iblk, V, idx t]

/-- Window 0's block is the whole array. -/
theorem blk0 (c : Dev nD) (t : Fin cfg0.N) : iblk m c 0 t = (m ((c : Thread nD τ).loc main_arg0)) := by
  funext j
  blk_point [iblk, V, idx t]

/-- Window 7's block is the whole array. -/
theorem blk7 (c : Dev nD) (t : Fin cfg0.N) : iblk m c 7 t = (m ((c : Thread nD τ).loc main_arg6)) := by
  funext j
  blk_point [iblk, V, idx t]

/-- Window 8's block is the whole array. -/
theorem blk8 (c : Dev nD) (t : Fin cfg0.N) : iblk m c 8 t = (m ((c : Thread nD τ).loc main_arg7)) := by
  funext j
  blk_point [iblk, V, idx t]

/-- Window 9's block is the whole array. -/
theorem blk9 (c : Dev nD) (t : Fin cfg0.N) : iblk m c 9 t = (m ((c : Thread nD τ).loc main_arg8)) := by
  funext j
  blk_point [iblk, V, idx t]

/-- Window 10's block is the whole array. -/
theorem blk10 (c : Dev nD) (t : Fin cfg0.N) : iblk m c 10 t = (m ((c : Thread nD τ).loc main_arg9)) := by
  funext j
  blk_point [iblk, V, idx t]

/-- Window 11's block is the whole array. -/
theorem blk11 (c : Dev nD) (t : Fin cfg0.N) : iblk m c 11 t = (m ((c : Thread nD τ).loc main_arg10)) := by
  funext j
  blk_point [iblk, V, idx t]

/-- What the reference leaves in output 0. -/
def G12 (c : Dev nD) : Vec Ideal Cert.BwdReferenceIdeal.S5504x4096 .fp8e4m3 :=
  Cert.BwdReferenceIdeal.Gen.k0_pay3 (F := Ideal) (m ((c : Thread nD τ).loc main_arg2)) (m ((c : Thread nD τ).loc main_arg5)) (m ((c : Thread nD τ).loc main_arg6))

/-- What the reference leaves in output 1. -/
def G13 (c : Dev nD) : Vec Ideal Cert.BwdReferenceIdeal.S1024x5504 .fp8e5m2 :=
  Cert.BwdReferenceIdeal.Gen.k0_pay11 (F := Ideal) (Cert.BwdReferenceIdeal.Gen.k0_pay17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Cert.BwdReferenceIdeal.Gen.k0_pay18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Cert.BwdReferenceIdeal.Gen.k0_pay19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg9))

/-- What the reference leaves in output 2. -/
def G14 (c : Dev nD) : Vec Ideal Cert.BwdReferenceIdeal.S1024x5504 .fp8e5m2 :=
  Cert.BwdReferenceIdeal.Gen.k0_pay13 (F := Ideal) (Cert.BwdReferenceIdeal.Gen.k0_pay15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg3)) (Cert.BwdReferenceIdeal.Gen.k0_pay16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg10))

/-- What the reference leaves in output 3. -/
def G15 (c : Dev nD) : Vec Ideal Cert.BwdReferenceIdeal.S4096x5504 .bf16 :=
  Cert.BwdReferenceIdeal.Gen.k0_pay1 (F := Ideal) (Cert.BwdReferenceIdeal.Gen.k0_pay11 (F := Ideal) (Cert.BwdReferenceIdeal.Gen.k0_pay17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Cert.BwdReferenceIdeal.Gen.k0_pay18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Cert.BwdReferenceIdeal.Gen.k0_pay19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg9))) (m ((c : Thread nD τ).loc main_arg1)) (m ((c : Thread nD τ).loc main_arg7)) (m ((c : Thread nD τ).loc main_arg9))

/-- What the reference leaves in output 4. -/
def G16 (c : Dev nD) : Vec Ideal Cert.BwdReferenceIdeal.S4096x5504 .bf16 :=
  Cert.BwdReferenceIdeal.Gen.k0_pay2 (F := Ideal) (Cert.BwdReferenceIdeal.Gen.k0_pay13 (F := Ideal) (Cert.BwdReferenceIdeal.Gen.k0_pay15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg3)) (Cert.BwdReferenceIdeal.Gen.k0_pay16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg10))) (m ((c : Thread nD τ).loc main_arg1)) (m ((c : Thread nD τ).loc main_arg7)) (m ((c : Thread nD τ).loc main_arg10))

/-- What the reference leaves in output 5. -/
def G17 (c : Dev nD) : Vec Ideal Cert.BwdReferenceIdeal.S1x1 .f32 :=
  fun j => Cert.BwdReferenceIdeal.Gen.k0_pay12 (F := Ideal) (Cert.BwdReferenceIdeal.Gen.k0_pay17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Cert.BwdReferenceIdeal.Gen.k0_pay18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Cert.BwdReferenceIdeal.Gen.k0_pay19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) j

/-- What the reference leaves in output 6. -/
def G18 (c : Dev nD) : Vec Ideal Cert.BwdReferenceIdeal.S1x1 .f32 :=
  fun j => Cert.BwdReferenceIdeal.Gen.k0_pay14 (F := Ideal) (Cert.BwdReferenceIdeal.Gen.k0_pay15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg3)) (Cert.BwdReferenceIdeal.Gen.k0_pay16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) j

/-- An entry of output 0's block, inside the array. -/
theorem ent12 (c : Dev nD) (t : Fin cfg0.N) (d2 d6) (r : Fin 256) (q : Fin 4096) (z : Fin 5504) (hz : z.val = t.val * 256 + r.val) :
    w2k ((cfg0.win 2).fill (cfg0.grid.coords t) d2 (iblk m c 2 t)) ((cfg0.win 6).fill (cfg0.grid.coords t) d6 (iblk m c 6 t)) (iblk m c 7 t) (ix2 r q) = G12 m c (ix2 z q) := by
  rw [blk7]
  unfold G12
  exact (w2k_apply _ _ _ (m ((c : Thread nD τ).loc main_arg2)) (m ((c : Thread nD τ).loc main_arg5)) (ix2 r q) (ix2 z q) (fill2 m c t d2 r q z hz) (fun l => fill6 m c t d6 r l z hz))

/-- An entry of output 1's block, inside the array. -/
theorem ent13 (c : Dev nD) (t : Fin cfg0.N) (d2 d3 d4 d5 d6) (r : Fin 256) (p : Fin 1024) (z : Fin 5504) (hz : z.val = t.val * 256 + r.val) :
    dgc (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t) (iblk m c 10 t) (ix2 p r) = G13 m c (ix2 p z) := by
  rw [blk0, blk7, blk9, blk10]
  unfold G13
  exact (dgc_apply _ _ _ _ _ _ _ (m ((c : Thread nD τ).loc main_arg7)) _ (m ((c : Thread nD τ).loc main_arg9)) (m ((c : Thread nD τ).loc main_arg10)) (m ((c : Thread nD τ).loc main_arg1)) (m ((c : Thread nD τ).loc main_arg2)) (m ((c : Thread nD τ).loc main_arg3)) (m ((c : Thread nD τ).loc main_arg4)) (m ((c : Thread nD τ).loc main_arg5)) p r z (fun q => fill2 m c t d2 r q z hz) (fun l => fill6 m c t d6 r l z hz) (fill3 m c t d3 r p z hz) (fill4 m c t d4 r p z hz) (fill5 m c t d5 r z hz))

/-- An entry of output 2's block, inside the array. -/
theorem ent14 (c : Dev nD) (t : Fin cfg0.N) (d2 d3 d5 d6) (r : Fin 256) (p : Fin 1024) (z : Fin 5504) (hz : z.val = t.val * 256 + r.val) :
    duc (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t) (iblk m c 11 t) (ix2 p r) = G14 m c (ix2 p z) := by
  rw [blk0, blk7, blk9, blk11]
  unfold G14
  exact (duc_apply _ _ _ (fun _ => Classical.arbitrary _) _ _ _ (m ((c : Thread nD τ).loc main_arg7)) _ (m ((c : Thread nD τ).loc main_arg9)) (m ((c : Thread nD τ).loc main_arg10)) (m ((c : Thread nD τ).loc main_arg1)) (m ((c : Thread nD τ).loc main_arg2)) (m ((c : Thread nD τ).loc main_arg3)) (m ((c : Thread nD τ).loc main_arg4)) (m ((c : Thread nD τ).loc main_arg5)) p r z (fun q => fill2 m c t d2 r q z hz) (fun l => fill6 m c t d6 r l z hz) (fill3 m c t d3 r p z hz) (fill5 m c t d5 r z hz))

/-- An entry of output 3's block, inside the array. -/
theorem ent15 (c : Dev nD) (t : Fin cfg0.N) (d2 d3 d4 d5 d6) (r : Fin 256) (q : Fin 4096) (z : Fin 5504) (hz : z.val = t.val * 256 + r.val) :
    dwgk (iblk m c 0 t) (iblk m c 1 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 8 t) (iblk m c 9 t) (iblk m c 10 t) (ix2 q r) = G15 m c (ix2 q z) := by
  rw [blk0, blk7, blk8, blk9, blk10]
  unfold G15
  exact (dwgk_apply _ _ _ _ _ _ _ (m ((c : Thread nD τ).loc main_arg7)) _ (m ((c : Thread nD τ).loc main_arg9)) (m ((c : Thread nD τ).loc main_arg10)) (m ((c : Thread nD τ).loc main_arg1)) (m ((c : Thread nD τ).loc main_arg2)) (m ((c : Thread nD τ).loc main_arg3)) (m ((c : Thread nD τ).loc main_arg4)) (m ((c : Thread nD τ).loc main_arg5)) _ q r z (fun p => blk1 m c t q p) (fun q' => fill2 m c t d2 r q' z hz) (fun l => fill6 m c t d6 r l z hz) (fun p => fill3 m c t d3 r p z hz) (fun p => fill4 m c t d4 r p z hz) (fill5 m c t d5 r z hz))

/-- An entry of output 4's block, inside the array. -/
theorem ent16 (c : Dev nD) (t : Fin cfg0.N) (d2 d3 d5 d6) (r : Fin 256) (q : Fin 4096) (z : Fin 5504) (hz : z.val = t.val * 256 + r.val) :
    dwuk (iblk m c 0 t) (iblk m c 1 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 8 t) (iblk m c 9 t) (iblk m c 11 t) (ix2 q r) = G16 m c (ix2 q z) := by
  rw [blk0, blk7, blk8, blk9, blk11]
  unfold G16
  exact (dwuk_apply _ _ _ (fun _ => Classical.arbitrary _) _ _ _ (m ((c : Thread nD τ).loc main_arg7)) _ (m ((c : Thread nD τ).loc main_arg9)) (m ((c : Thread nD τ).loc main_arg10)) (m ((c : Thread nD τ).loc main_arg1)) (m ((c : Thread nD τ).loc main_arg2)) (m ((c : Thread nD τ).loc main_arg3)) (m ((c : Thread nD τ).loc main_arg4)) (m ((c : Thread nD τ).loc main_arg5)) _ q r z (fun p => blk1 m c t q p) (fun q' => fill2 m c t d2 r q' z hz) (fun l => fill6 m c t d6 r l z hz) (fun p => fill3 m c t d3 r p z hz) (fill5 m c t d5 r z hz))

/-- The reference's values dg_amax is the maximum of. -/
def fDg (c : Dev nD) (p : Fin 1024) (z : Fin 5504) : EReal :=
  refDg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 p z)

/-- A point's block holds its columns of them. -/
theorem ent_dg (c : Dev nD) (t : Fin cfg0.N) (d2 d3 d4 d5 d6) (p : Fin 1024) (r : Fin 256) (z : Fin 5504) (hz : z.val = t.val * 256 + r.val) :
    dgk (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t) (ix2 p r) = fDg m c p z := by
  rw [blk0, blk7, blk9]
  unfold fDg
  exact dgk_apply _ _ _ _ _ _ _ (m ((c : Thread nD τ).loc main_arg7)) _ (m ((c : Thread nD τ).loc main_arg9)) (m ((c : Thread nD τ).loc main_arg10)) (m ((c : Thread nD τ).loc main_arg1)) (m ((c : Thread nD τ).loc main_arg2)) (m ((c : Thread nD τ).loc main_arg3)) (m ((c : Thread nD τ).loc main_arg4)) (m ((c : Thread nD τ).loc main_arg5)) p r z (fun q => fill2 m c t d2 r q z hz) (fun l => fill6 m c t d6 r l z hz) (fill3 m c t d3 r p z hz) (fill4 m c t d4 r p z hz) (fill5 m c t d5 r z hz)

/-- The reference's values du_amax is the maximum of. -/
def fDu (c : Dev nD) (p : Fin 1024) (z : Fin 5504) : EReal :=
  refDu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 p z)

/-- A point's block holds its columns of them. -/
theorem ent_du (c : Dev nD) (t : Fin cfg0.N) (d2 d3 d5 d6) (p : Fin 1024) (r : Fin 256) (z : Fin 5504) (hz : z.val = t.val * 256 + r.val) :
    duk (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t) (ix2 p r) = fDu m c p z := by
  rw [blk0, blk7, blk9]
  unfold fDu
  exact duk_apply _ _ _ (fun _ => Classical.arbitrary _) _ _ _ (m ((c : Thread nD τ).loc main_arg7)) _ (m ((c : Thread nD τ).loc main_arg9)) (m ((c : Thread nD τ).loc main_arg10)) (m ((c : Thread nD τ).loc main_arg1)) (m ((c : Thread nD τ).loc main_arg2)) (m ((c : Thread nD τ).loc main_arg3)) (m ((c : Thread nD τ).loc main_arg4)) (m ((c : Thread nD τ).loc main_arg5)) p r z (fun q => fill2 m c t d2 r q z hz) (fun l => fill6 m c t d6 r l z hz) (fill3 m c t d3 r p z hz) (fill5 m c t d5 r z hz)

end Cert.BwdIdeal.Result

end
-- ==== Proof.BwdIdealRef.lean ====
/- The arrays `G12` … `G18` are the ones the run of the reference names. -/
module

public import proofs.«01_k».proof.Proof.BwdIdealAgree
public import proofs.«01_k».proof.Proof.Gen.BwdReferenceIdeal.Value

@[expose] public section

set_option maxRecDepth 16384

noncomputable section

namespace Cert.BwdIdeal.Result

open Cert.BwdIdeal Cert.BwdIdeal.Gen Cert.BwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Output 0 of the reference. -/
theorem ref12 (c : Dev nD) : G12 m c = Cert.BwdReferenceIdeal.Value.G11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold G12
  with_reducible rfl

/-- Output 1 of the reference. -/
theorem ref13 (c : Dev nD) : G13 m c = Cert.BwdReferenceIdeal.Value.G12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold G13
  with_reducible rfl

/-- Output 2 of the reference. -/
theorem ref14 (c : Dev nD) : G14 m c = Cert.BwdReferenceIdeal.Value.G13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold G14
  with_reducible rfl

/-- Output 3 of the reference. -/
theorem ref15 (c : Dev nD) : G15 m c = Cert.BwdReferenceIdeal.Value.G14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold G15
  with_reducible rfl

/-- Output 4 of the reference. -/
theorem ref16 (c : Dev nD) : G16 m c = Cert.BwdReferenceIdeal.Value.G15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold G16
  with_reducible rfl

/-- Output 5 of the reference. -/
theorem ref17 (c : Dev nD) : G17 m c = Cert.BwdReferenceIdeal.Value.G16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold G17
  funext j
  unfold Cert.BwdReferenceIdeal.Value.G16
  with_reducible rfl

/-- Output 6 of the reference. -/
theorem ref18 (c : Dev nD) : G18 m c = Cert.BwdReferenceIdeal.Value.G17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold G18
  funext j
  unfold Cert.BwdReferenceIdeal.Value.G17
  with_reducible rfl

end Cert.BwdIdeal.Result

end
-- ==== Proof.BwdIdealRuns.lean ====
/- What the runs of the body of `BwdIdeal` share: at which points its two conditions hold, where the two maxima are idle,
   and the scratch buffers the call keeps between points. -/
module

public import proofs.«01_k».proof.Proof.Gen.BwdIdeal.Frame
public import proofs.«01_k».proof.Proof.Gen.BwdIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.BwdIdeal.Body

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 22 = 0 :=
  (fun t => by
    have ht : t.val < 22 := Nat.lt_of_lt_of_eq t.isLt N_0
    have e0 : (grid0.coords t 0).val = t.val / 1 % 22 := Pipeline.Grid.coords_val t 0 (by decide) rfl
    simp only [cond0_0, e0]
    word_cmp
   : ∀ t : Fin grid0.N, cond0_0 (grid0.coords t) ↔ t.val % 22 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 22 = 21 :=
  (fun t => by
    have ht : t.val < 22 := Nat.lt_of_lt_of_eq t.isLt N_0
    have e0 : (grid0.coords t 0).val = t.val / 1 % 22 := Pipeline.Grid.coords_val t 0 (by decide) rfl
    simp only [cond0_1, k0_cond2, e0]
    word_cmp
   : ∀ t : Fin grid0.N, cond0_1 (grid0.coords t) ↔ t.val % 22 = 21)

/-! ## Where the two maxima are idle -/

/-- The maximum's window is idle here. -/
theorem idleAt0_17_A : ∀ t : Fin cfg0.N, cond0_0 (grid0.coords t) → ¬cond0_1 (grid0.coords t) → cfg0.idle 17 (grid0.coords t) = true := by decide +kernel
/-- Nothing is written back here. -/
theorem noFlush0_17_A : ∀ t : Fin cfg0.N, cond0_0 (grid0.coords t) → ¬cond0_1 (grid0.coords t) → (cfg0.win 17).flush t = false := by decide +kernel
/-- The maximum's window is idle here. -/
theorem idleAt0_17_B : ∀ t : Fin cfg0.N, ¬cond0_0 (grid0.coords t) → ¬cond0_1 (grid0.coords t) → cfg0.idle 17 (grid0.coords t) = true := by decide +kernel
/-- Nothing is written back here. -/
theorem noFlush0_17_B : ∀ t : Fin cfg0.N, ¬cond0_0 (grid0.coords t) → ¬cond0_1 (grid0.coords t) → (cfg0.win 17).flush t = false := by decide +kernel
/-- At the last point the window is stored. -/
theorem liveAt0_17_C : ∀ t : Fin cfg0.N, ¬cond0_0 (grid0.coords t) → cond0_1 (grid0.coords t) → cfg0.idle 17 (grid0.coords t) = false := by decide +kernel
/-- The maximum's window is idle here. -/
theorem idleAt0_18_A : ∀ t : Fin cfg0.N, cond0_0 (grid0.coords t) → ¬cond0_1 (grid0.coords t) → cfg0.idle 18 (grid0.coords t) = true := by decide +kernel
/-- Nothing is written back here. -/
theorem noFlush0_18_A : ∀ t : Fin cfg0.N, cond0_0 (grid0.coords t) → ¬cond0_1 (grid0.coords t) → (cfg0.win 18).flush t = false := by decide +kernel
/-- The maximum's window is idle here. -/
theorem idleAt0_18_B : ∀ t : Fin cfg0.N, ¬cond0_0 (grid0.coords t) → ¬cond0_1 (grid0.coords t) → cfg0.idle 18 (grid0.coords t) = true := by decide +kernel
/-- Nothing is written back here. -/
theorem noFlush0_18_B : ∀ t : Fin cfg0.N, ¬cond0_0 (grid0.coords t) → ¬cond0_1 (grid0.coords t) → (cfg0.win 18).flush t = false := by decide +kernel
/-- At the last point the window is stored. -/
theorem liveAt0_18_C : ∀ t : Fin cfg0.N, ¬cond0_0 (grid0.coords t) → cond0_1 (grid0.coords t) → cfg0.idle 18 (grid0.coords t) = false := by decide +kernel

/-! ## The staging buffers at a point -/

abbrev ms0_0 (t : Fin cfg0.N) : Memref sig .tc .vmem S1024x4096 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .smem S1x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x4096 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x256 .fp8e5m2 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x256 .fp8e5m2 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4096x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S4096x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .smem S1x1 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .smem S1x1 .f32 := win0_18.stage (cfg0.slots t 18)
abbrev hs0_18 (t : Fin cfg0.N) : (ms0_18 t).IsWhole := hstage0_18 ((cfg0.slots t 18).cast nbuf0_18)

/-- The scratch operands: whole scoped buffers of the kernel's own, passed beside the windows. -/
abbrev scM0_0 : Memref sig .tc .vmem S8x128 .f32 := Memref.whole cc0_scratch0
abbrev scM0_1 : Memref sig .tc .vmem S8x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.BwdIdeal.Body

end
-- ==== Proof.BwdIdealRunA.lean ====
/- The body of `BwdIdeal` run once, in case A of its two conditions. -/
module

public import proofs.«01_k».proof.Proof.BwdIdealRuns

@[expose] public section

set_option maxRecDepth 16384

noncomputable section

namespace Cert.BwdIdeal.Body

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (17, 18: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) :
    Σ' (L12 : List (View.Piece (Elt F) S256x4096 .fp8e4m3)), Σ' (L13 : List (View.Piece (Elt F) S1024x256 .fp8e5m2)), Σ' (L14 : List (View.Piece (Elt F) S1024x256 .fp8e5m2)), Σ' (L15 : List (View.Piece (Elt F) S4096x256 .bf16)), Σ' (L16 : List (View.Piece (Elt F) S4096x256 .bf16)), Σ' (L17 : List (View.Piece (Elt F) S1x1 .f32)), Σ' (L18 : List (View.Piece (Elt F) S1x1 .f32)), Σ' (LS0 : List (View.Piece (Elt F) S8x128 .f32)), { LS1 : List (View.Piece (Elt F) S8x128 .f32) //
      ∀ (xi17 : Vec F S1x1 .f32) (xi18 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xi17 ∗ owns (c : Thread nD τ) arg19 fullShare xi18 ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ owns (c : Thread nD τ) arg18 fullShare xi17 ∗ owns (c : Thread nD τ) arg19 fullShare xi18 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, [], [], ?_, ?_, fun xi17 xi18 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg18.eq_unread hf17; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]
    · iexists _; isplitr; · ipureintro; exact harg18.read_unread _
      iexact H17
    isplitl [H18]
    · iexists _; isplitr; · ipureintro; exact harg19.read_unread _
      iexact H18
    isplitl [HS0]; · iexists _; iexact HS0
    iexists _; iexact HS1

end Cert.BwdIdeal.Body

end
-- ==== Proof.BwdIdealOutA.lean ====
/- The blocks that the body of `BwdIdeal` leaves in case A, by the functions of the blocks it reads. -/
module

public import proofs.«01_k».proof.Proof.BwdIdealRunA
public import proofs.«01_k».proof.Proof.BwdIdealBlocks
public import Idealize.ShloMosaic.Lib.Pipeline.ValueKit
public import Idealize.ShloMosaic.Lib.Pointwise

@[expose] public section

set_option maxRecDepth 16384

noncomputable section

namespace Cert.BwdIdeal.Body

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of output w2 in case A. -/
theorem w2_A (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1 = w2k x2 x6 x7 := by
  frame_out [readCov_whole]

/-- The contents of output dg in case A. -/
theorem dg_A (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1 = dgc x0 x2 x3 x4 x5 x6 x7 x9 x10 := by
  frame_out [readCov_whole]
  unfold dgc dgk dhk w2k
  with_reducible rfl

/-- The contents of output du in case A. -/
theorem du_A (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.1 = duc x0 x2 x3 x5 x6 x7 x9 x11 := by
  frame_out [readCov_whole]
  unfold duc duk dhk w2k
  with_reducible rfl

/-- The contents of output dwg in case A. -/
theorem dwg_A (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1 = dwgk x0 x1 x2 x3 x4 x5 x6 x7 x8 x9 x10 := by
  frame_out [readCov_whole]
  unfold dwgk dgk dhk w2k
  with_reducible rfl

/-- The contents of output dwu in case A. -/
theorem dwu_A (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1 = dwuk x0 x1 x2 x3 x5 x6 x7 x8 x9 x11 := by
  frame_out [readCov_whole]
  unfold dwuk duc duk dhk w2k
  with_reducible rfl

/-- The contents of output gm in case A. -/
theorem gm_A (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.2.1 = gmk i x0 x2 x3 x4 x5 x6 x7 x9 k0_pay5 := by
  frame_out [readCov_whole]
  unfold gmk dhk w2k
  with_reducible rfl

/-- The contents of output um in case A. -/
theorem um_A (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.2.2.2.1 = umk i x0 x2 x3 x5 x6 x7 x9 k0_pay6 := by
  frame_out [readCov_whole]
  unfold umk duk dhk w2k
  with_reducible rfl

end Cert.BwdIdeal.Body

end
-- ==== Proof.BwdIdealRunB.lean ====
/- The body of `BwdIdeal` run once, in case B of its two conditions. -/
module

public import proofs.«01_k».proof.Proof.BwdIdealRunA

@[expose] public section

set_option maxRecDepth 16384

noncomputable section

namespace Cert.BwdIdeal.Body

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 20: 20 of 22), WITH the
    proof that on whole staging memrefs — the inputs' at their contents, the outputs it leaves idle (17, 18: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    Σ' (L12 : List (View.Piece (Elt F) S256x4096 .fp8e4m3)), Σ' (L13 : List (View.Piece (Elt F) S1024x256 .fp8e5m2)), Σ' (L14 : List (View.Piece (Elt F) S1024x256 .fp8e5m2)), Σ' (L15 : List (View.Piece (Elt F) S4096x256 .bf16)), Σ' (L16 : List (View.Piece (Elt F) S4096x256 .bf16)), Σ' (L17 : List (View.Piece (Elt F) S1x1 .f32)), Σ' (L18 : List (View.Piece (Elt F) S1x1 .f32)), Σ' (LS0 : List (View.Piece (Elt F) S8x128 .f32)), { LS1 : List (View.Piece (Elt F) S8x128 .f32) //
      ∀ (xi17 : Vec F S1x1 .f32) (xi18 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xi17 ∗ owns (c : Thread nD τ) arg19 fullShare xi18 ∗ owns (c : Thread nD τ) arg20 fullShare xs0 ∗ owns (c : Thread nD τ) arg21 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ owns (c : Thread nD τ) arg18 fullShare xi17 ∗ owns (c : Thread nD τ) arg19 fullShare xi18 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, [], [], ?_, ?_, fun xi17 xi18 E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg18.eq_unread hf17; obtain rfl := harg19.eq_unread hf18; obtain rfl := harg20.eq_unread hfs0; obtain rfl := harg21.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]
    · iexists _; isplitr; · ipureintro; exact harg18.read_unread _
      iexact H17
    isplitl [H18]
    · iexists _; isplitr; · ipureintro; exact harg19.read_unread _
      iexact H18
    isplitl [HS0]; · iexists _; iexact HS0
    iexists _; iexact HS1

end Cert.BwdIdeal.Body

end
-- ==== Proof.BwdIdealOutB.lean ====
/- The blocks that the body of `BwdIdeal` leaves in case B, by the functions of the blocks it reads. -/
module

public import proofs.«01_k».proof.Proof.BwdIdealRunB
public import proofs.«01_k».proof.Proof.BwdIdealBlocks
public import Idealize.ShloMosaic.Lib.Pipeline.ValueKit
public import Idealize.ShloMosaic.Lib.Pointwise

@[expose] public section

set_option maxRecDepth 16384

noncomputable section

namespace Cert.BwdIdeal.Body

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of output w2 in case B. -/
theorem w2_B (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).1 = w2k x2 x6 x7 := by
  frame_out [readCov_whole]

/-- The contents of output dg in case B. -/
theorem dg_B (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.1 = dgc x0 x2 x3 x4 x5 x6 x7 x9 x10 := by
  frame_out [readCov_whole]
  unfold dgc dgk dhk w2k
  with_reducible rfl

/-- The contents of output du in case B. -/
theorem du_B (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.1 = duc x0 x2 x3 x5 x6 x7 x9 x11 := by
  frame_out [readCov_whole]
  unfold duc duk dhk w2k
  with_reducible rfl

/-- The contents of output dwg in case B. -/
theorem dwg_B (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.2.1 = dwgk x0 x1 x2 x3 x4 x5 x6 x7 x8 x9 x10 := by
  frame_out [readCov_whole]
  unfold dwgk dgk dhk w2k
  with_reducible rfl

/-- The contents of output dwu in case B. -/
theorem dwu_B (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.2.2.1 = dwuk x0 x1 x2 x3 x5 x6 x7 x8 x9 x11 := by
  frame_out [readCov_whole]
  unfold dwuk duc duk dhk w2k
  with_reducible rfl

/-- The contents of output gm in case B. -/
theorem gm_B (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.2.2.2.2.2.1 = gmk i x0 x2 x3 x4 x5 x6 x7 x9 xs0 := by
  frame_out [readCov_whole]
  unfold gmk dhk w2k
  with_reducible rfl

/-- The contents of output um in case B. -/
theorem um_B (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : ¬cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.2.2.2.2.2.2.1 = umk i x0 x2 x3 x5 x6 x7 x9 xs1 := by
  frame_out [readCov_whole]
  unfold umk duk dhk w2k
  with_reducible rfl

end Cert.BwdIdeal.Body

end
-- ==== Proof.BwdIdealRunC.lean ====
/- The body of `BwdIdeal` run once, in case C of its two conditions. -/
module

public import proofs.«01_k».proof.Proof.BwdIdealRunB

@[expose] public section

set_option maxRecDepth 16384

noncomputable section

namespace Cert.BwdIdeal.Body

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 21), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    Σ' (L12 : List (View.Piece (Elt F) S256x4096 .fp8e4m3)), Σ' (L13 : List (View.Piece (Elt F) S1024x256 .fp8e5m2)), Σ' (L14 : List (View.Piece (Elt F) S1024x256 .fp8e5m2)), Σ' (L15 : List (View.Piece (Elt F) S4096x256 .bf16)), Σ' (L16 : List (View.Piece (Elt F) S4096x256 .bf16)), Σ' (L17 : List (View.Piece (Elt F) S1x1 .f32)), Σ' (L18 : List (View.Piece (Elt F) S1x1 .f32)), Σ' (LS0 : List (View.Piece (Elt F) S8x128 .f32)), { LS1 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, fun E K => ?run⟩
  case run =>
    simp only [cc0_bwd_eq_skeleton]; unfold cc0_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg20.eq_unread hfs0; obtain rfl := harg21.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    iexists _; iexact HS1

end Cert.BwdIdeal.Body

end
-- ==== Proof.BwdIdealOutC.lean ====
/- The blocks that the body of `BwdIdeal` leaves in case C, by the functions of the blocks it reads. -/
module

public import proofs.«01_k».proof.Proof.BwdIdealRunC
public import proofs.«01_k».proof.Proof.BwdIdealBlocks
public import Idealize.ShloMosaic.Lib.Pipeline.ValueKit
public import Idealize.ShloMosaic.Lib.Pointwise

@[expose] public section

set_option maxRecDepth 16384

noncomputable section

namespace Cert.BwdIdeal.Body

open Cert.BwdIdeal Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of output w2 in case C. -/
theorem w2_C (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).1 = w2k x2 x6 x7 := by
  frame_out [readCov_whole]

/-- The contents of output dg in case C. -/
theorem dg_C (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.1 = dgc x0 x2 x3 x4 x5 x6 x7 x9 x10 := by
  frame_out [readCov_whole]
  unfold dgc dgk dhk w2k
  with_reducible rfl

/-- The contents of output du in case C. -/
theorem du_C (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.1 = duc x0 x2 x3 x5 x6 x7 x9 x11 := by
  frame_out [readCov_whole]
  unfold duc duk dhk w2k
  with_reducible rfl

/-- The contents of output dwg in case C. -/
theorem dwg_C (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.2.1 = dwgk x0 x1 x2 x3 x4 x5 x6 x7 x8 x9 x10 := by
  frame_out [readCov_whole]
  unfold dwgk dgk dhk w2k
  with_reducible rfl

/-- The contents of output dwu in case C. -/
theorem dwu_C (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.2.2.1 = dwuk x0 x1 x2 x3 x5 x6 x7 x8 x9 x11 := by
  frame_out [readCov_whole]
  unfold dwuk duc duk dhk w2k
  with_reducible rfl

/-- The contents of output gmax in case C. -/
theorem gmax_C (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.2.2.2.1 = (fun _ => k0_pay3 (gmk i x0 x2 x3 x4 x5 x6 x7 x9 xs0)) := by
  frame_out [readCov_whole]
  unfold gmk dhk
  rw [← w2k.eq_1]
  rfl

/-- The contents of output umax in case C. -/
theorem umax_C (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.2.2.2.2.1 = (fun _ => k0_pay4 (umk i x0 x2 x3 x5 x6 x7 x9 xs1)) := by
  frame_out [readCov_whole]
  unfold umk duk dhk
  rw [← w2k.eq_1]
  rfl

/-- The contents of output gm in case C. -/
theorem gm_C (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.2.2.2.2.2.1 = gmk i x0 x2 x3 x4 x5 x6 x7 x9 xs0 := by
  frame_out [readCov_whole]
  unfold gmk dhk w2k
  with_reducible rfl

/-- The contents of output um in case C. -/
theorem um_C (c : Dev nD) (i : grid0.Coords) (arg1 : Memref sig .tc .vmem S1024x4096 .fp8e5m2) (harg1 : arg1.IsWhole) (arg2 : Memref sig .tc .vmem S4096x1024 .fp8e4m3) (harg2 : arg2.IsWhole) (arg3 : Memref sig .tc .vmem S256x4096 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x256 .f32) (harg6 : arg6.IsWhole) (arg7 : Memref sig .tc .vmem S256x128 .f32) (harg7 : arg7.IsWhole) (arg8 : Memref sig .tc .smem S1x1 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S256x4096 .fp8e4m3) (harg13 : arg13.IsWhole) (arg14 : Memref sig .tc .vmem S1024x256 .fp8e5m2) (harg14 : arg14.IsWhole) (arg15 : Memref sig .tc .vmem S1024x256 .fp8e5m2) (harg15 : arg15.IsWhole) (arg16 : Memref sig .tc .vmem S4096x256 .bf16) (harg16 : arg16.IsWhole) (arg17 : Memref sig .tc .vmem S4096x256 .bf16) (harg17 : arg17.IsWhole) (arg18 : Memref sig .tc .smem S1x1 .f32) (harg18 : arg18.IsWhole) (arg19 : Memref sig .tc .smem S1x1 .f32) (harg19 : arg19.IsWhole) (arg20 : Memref sig .tc .vmem S8x128 .f32) (harg20 : arg20.IsWhole) (arg21 : Memref sig .tc .vmem S8x128 .f32) (harg21 : arg21.IsWhole) (hc0 : ¬cond0_0 i) (hc1 : cond0_1 i)
    (x0 : Vec F S1024x4096 .fp8e5m2) (x1 : Vec F S4096x1024 .fp8e4m3) (x2 : Vec F S256x4096 .bf16) (x3 : Vec F S1024x256 .f32) (x4 : Vec F S1024x256 .f32) (x5 : Vec F S1x256 .f32) (x6 : Vec F S256x128 .f32) (x7 : Vec F S1x1 .f32) (x8 : Vec F S1x1 .f32) (x9 : Vec F S1x1 .f32) (x10 : Vec F S1x1 .f32) (x11 : Vec F S1x1 .f32) (xs0 : Vec F S8x128 .f32) (xs1 : Vec F S8x128 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs0 xs1).2.2.2.2.2.2.2.2.1 = umk i x0 x2 x3 x5 x6 x7 x9 xs1 := by
  frame_out [readCov_whole]
  unfold umk duk dhk w2k
  with_reducible rfl

end Cert.BwdIdeal.Body

end
-- ==== Proof.BwdIdealDats.lean ====
/- The proof data of `BwdIdeal`: every output block holds, inside its array, what the reference's array holds there;
   the two running maxima bound the blocks gone by. -/
module

public import proofs.«01_k».proof.Proof.BwdIdealAgree
public import proofs.«01_k».proof.Proof.BwdIdealOutA
public import proofs.«01_k».proof.Proof.BwdIdealOutB
public import proofs.«01_k».proof.Proof.BwdIdealOutC

@[expose] public section

set_option maxRecDepth 16384

noncomputable section

namespace Cert.BwdIdeal.Result

open Cert.BwdIdeal Cert.BwdIdeal.Gen Cert.BwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the kernel's two accumulators hold before position `n`: anything before the first point; later, the maxima
    over the columns of the blocks gone by. -/
def accs (c : Dev nD) (n : ℕ) : sProp 𝕄 :=
  iprop(iprop((∃ v, ⌜Inv (fDg m c) n v⌝ ∗ owns (c : Thread nD τ) scM0_0 fullShare v)
    ∗ (∃ v, ⌜Inv (fDu m c) n v⌝ ∗ owns (c : Thread nD τ) scM0_1 fullShare v)) ∗ (∃ r, prngReg c r))

/-- The invariant between points. -/
def Phi (c : Dev nD) (n : ℕ) : sProp 𝕄 := if n = 0 then Pipeline.ΦA spec0 c else accs m c n

/-- Window `w`'s block at point `t`, filled out past the array's end. -/
def fblk (c : Dev nD) (w : Fin cfg0.W) (t : Fin cfg0.N) : (cfg0.win w).block.Idx → Elt Ideal (cfg0.win w).elt :=
  (cfg0.win w).fill (cfg0.grid.coords t) (fun _ => Classical.arbitrary _) (iblk m c w t)

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fblk m c 2 t
    | ⟨3, _⟩ => fblk m c 3 t
    | ⟨4, _⟩ => fblk m c 4 t
    | ⟨5, _⟩ => fblk m c 5 t
    | ⟨6, _⟩ => fblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (cfg0.win 12).fill (cfg0.grid.coords t) (fun _ => Classical.arbitrary _) (((cfg0.win 12).blk t).view.read (Elt Ideal) (G12 m c))
    | ⟨13, _⟩ => (cfg0.win 13).fill (cfg0.grid.coords t) (fun _ => Classical.arbitrary _) (((cfg0.win 13).blk t).view.read (Elt Ideal) (G13 m c))
    | ⟨14, _⟩ => (cfg0.win 14).fill (cfg0.grid.coords t) (fun _ => Classical.arbitrary _) (((cfg0.win 14).blk t).view.read (Elt Ideal) (G14 m c))
    | ⟨15, _⟩ => (cfg0.win 15).fill (cfg0.grid.coords t) (fun _ => Classical.arbitrary _) (((cfg0.win 15).blk t).view.read (Elt Ideal) (G15 m c))
    | ⟨16, _⟩ => (cfg0.win 16).fill (cfg0.grid.coords t) (fun _ => Classical.arbitrary _) (((cfg0.win 16).blk t).view.read (Elt Ideal) (G16 m c))
    | ⟨17, _⟩ => G17 m c
    | ⟨18, _⟩ => G18 m c
    | ⟨_ + 19, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = fblk m c 2 t := by dsimp only [dats]
theorem after0_3 (c : Dev nD) (t : Fin cfg0.N) : (dats m 0 c).after 3 t = fblk m c 3 t := by dsimp only [dats]
theorem after0_4 (c : Dev nD) (t : Fin cfg0.N) : (dats m 0 c).after 4 t = fblk m c 4 t := by dsimp only [dats]
theorem after0_5 (c : Dev nD) (t : Fin cfg0.N) : (dats m 0 c).after 5 t = fblk m c 5 t := by dsimp only [dats]
theorem after0_6 (c : Dev nD) (t : Fin cfg0.N) : (dats m 0 c).after 6 t = fblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (cfg0.win 12).fill (cfg0.grid.coords t) (fun _ => Classical.arbitrary _) (((cfg0.win 12).blk t).view.read (Elt Ideal) (G12 m c)) := by dsimp only [dats]
theorem after0_13 (c : Dev nD) (t : Fin cfg0.N) : (dats m 0 c).after 13 t = (cfg0.win 13).fill (cfg0.grid.coords t) (fun _ => Classical.arbitrary _) (((cfg0.win 13).blk t).view.read (Elt Ideal) (G13 m c)) := by dsimp only [dats]
theorem after0_14 (c : Dev nD) (t : Fin cfg0.N) : (dats m 0 c).after 14 t = (cfg0.win 14).fill (cfg0.grid.coords t) (fun _ => Classical.arbitrary _) (((cfg0.win 14).blk t).view.read (Elt Ideal) (G14 m c)) := by dsimp only [dats]
theorem after0_15 (c : Dev nD) (t : Fin cfg0.N) : (dats m 0 c).after 15 t = (cfg0.win 15).fill (cfg0.grid.coords t) (fun _ => Classical.arbitrary _) (((cfg0.win 15).blk t).view.read (Elt Ideal) (G15 m c)) := by dsimp only [dats]
theorem after0_16 (c : Dev nD) (t : Fin cfg0.N) : (dats m 0 c).after 16 t = (cfg0.win 16).fill (cfg0.grid.coords t) (fun _ => Classical.arbitrary _) (((cfg0.win 16).blk t).view.read (Elt Ideal) (G16 m c)) := by dsimp only [dats]
theorem after0_17 (c : Dev nD) (t : Fin cfg0.N) : (dats m 0 c).after 17 t = G17 m c := by dsimp only [dats]
theorem after0_18 (c : Dev nD) (t : Fin cfg0.N) : (dats m 0 c).after 18 t = G18 m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) :
    (dats m 0 c).before 2 t d = (cfg0.win 2).fill (cfg0.grid.coords t) d (iblk m c 2 t) := by
  unfold Dat.before; rw [if_pos (fetch0_2 t)]; rfl
theorem before0_3 (c : Dev nD) (t : Fin cfg0.N) (d) :
    (dats m 0 c).before 3 t d = (cfg0.win 3).fill (cfg0.grid.coords t) d (iblk m c 3 t) := by
  unfold Dat.before; rw [if_pos (fetch0_3 t)]; rfl
theorem before0_4 (c : Dev nD) (t : Fin cfg0.N) (d) :
    (dats m 0 c).before 4 t d = (cfg0.win 4).fill (cfg0.grid.coords t) d (iblk m c 4 t) := by
  unfold Dat.before; rw [if_pos (fetch0_4 t)]; rfl
theorem before0_5 (c : Dev nD) (t : Fin cfg0.N) (d) :
    (dats m 0 c).before 5 t d = (cfg0.win 5).fill (cfg0.grid.coords t) d (iblk m c 5 t) := by
  unfold Dat.before; rw [if_pos (fetch0_5 t)]; rfl
theorem before0_6 (c : Dev nD) (t : Fin cfg0.N) (d) :
    (dats m 0 c).before 6 t d = (cfg0.win 6).fill (cfg0.grid.coords t) d (iblk m c 6 t) := by
  unfold Dat.before; rw [if_pos (fetch0_6 t)]; rfl
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem leaves0_0 (c : Dev nD) (t : Fin cfg0.N) : (dats m 0 c).leaves 0 t
    = owns (c : Thread nD τ) (ms0_0 t) fullShare (iblk m c 0 t) := by
  unfold Dat.leaves; rw [show cfg0.idle 0 (cfg0.grid.coords t) = false from rfl, show cfg0.loose 0 = false from rfl, after0_0]
  try rfl
theorem leaves0_1 (c : Dev nD) (t : Fin cfg0.N) : (dats m 0 c).leaves 1 t
    = owns (c : Thread nD τ) (ms0_1 t) fullShare (iblk m c 1 t) := by
  unfold Dat.leaves; rw [show cfg0.idle 1 (cfg0.grid.coords t) = false from rfl, show cfg0.loose 1 = false from rfl, after0_1]
  try rfl
theorem leaves0_2 (c : Dev nD) (t : Fin cfg0.N) : (dats m 0 c).leaves 2 t
    = iprop(∃ d, owns (c : Thread nD τ) (ms0_2 t) fullShare ((cfg0.win 2).fill (cfg0.grid.coords t) d (iblk m c 2 t))) := by
  unfold Dat.leaves; rw [show cfg0.idle 2 (cfg0.grid.coords t) = false from rfl, show cfg0.loose 2 = true from rfl, after0_2, fblk, Window.cut_fill]
  try rfl
theorem leaves0_3 (c : Dev nD) (t : Fin cfg0.N) : (dats m 0 c).leaves 3 t
    = iprop(∃ d, owns (c : Thread nD τ) (ms0_3 t) fullShare ((cfg0.win 3).fill (cfg0.grid.coords t) d (iblk m c 3 t))) := by
  unfold Dat.leaves; rw [show cfg0.idle 3 (cfg0.grid.coords t) = false from rfl, show cfg0.loose 3 = true from rfl, after0_3, fblk, Window.cut_fill]
  try rfl
theorem leaves0_4 (c : Dev nD) (t : Fin cfg0.N) : (dats m 0 c).leaves 4 t
    = iprop(∃ d, owns (c : Thread nD τ) (ms0_4 t) fullShare ((cfg0.win 4).fill (cfg0.grid.coords t) d (iblk m c 4 t))) := by
  unfold Dat.leaves; rw [show cfg0.idle 4 (cfg0.grid.coords t) = false from rfl, show cfg0.loose 4 = true from rfl, after0_4, fblk, Window.cut_fill]
  try rfl
theorem leaves0_5 (c : Dev nD) (t : Fin cfg0.N) : (dats m 0 c).leaves 5 t
    = iprop(∃ d, owns (c : Thread nD τ) (ms0_5 t) fullShare ((cfg0.win 5).fill (cfg0.grid.coords t) d (iblk m c 5 t))) := by
  unfold Dat.leaves; rw [show cfg0.idle 5 (cfg0.grid.coords t) = false from rfl, show cfg0.loose 5 = true from rfl, after0_5, fblk, Window.cut_fill]
  try rfl
theorem leaves0_6 (c : Dev nD) (t : Fin cfg0.N) : (dats m 0 c).leaves 6 t
    = iprop(∃ d, owns (c : Thread nD τ) (ms0_6 t) fullShare ((cfg0.win 6).fill (cfg0.grid.coords t) d (iblk m c 6 t))) := by
  unfold Dat.leaves; rw [show cfg0.idle 6 (cfg0.grid.coords t) = false from rfl, show cfg0.loose 6 = true from rfl, after0_6, fblk, Window.cut_fill]
  try rfl
theorem leaves0_7 (c : Dev nD) (t : Fin cfg0.N) : (dats m 0 c).leaves 7 t
    = owns (c : Thread nD τ) (ms0_7 t) fullShare (iblk m c 7 t) := by
  unfold Dat.leaves; rw [show cfg0.idle 7 (cfg0.grid.coords t) = false from rfl, show cfg0.loose 7 = false from rfl, after0_7]
  try rfl
theorem leaves0_8 (c : Dev nD) (t : Fin cfg0.N) : (dats m 0 c).leaves 8 t
    = owns (c : Thread nD τ) (ms0_8 t) fullShare (iblk m c 8 t) := by
  unfold Dat.leaves; rw [show cfg0.idle 8 (cfg0.grid.coords t) = false from rfl, show cfg0.loose 8 = false from rfl, after0_8]
  try rfl
theorem leaves0_9 (c : Dev nD) (t : Fin cfg0.N) : (dats m 0 c).leaves 9 t
    = owns (c : Thread nD τ) (ms0_9 t) fullShare (iblk m c 9 t) := by
  unfold Dat.leaves; rw [show cfg0.idle 9 (cfg0.grid.coords t) = false from rfl, show cfg0.loose 9 = false from rfl, after0_9]
  try rfl
theorem leaves0_10 (c : Dev nD) (t : Fin cfg0.N) : (dats m 0 c).leaves 10 t
    = owns (c : Thread nD τ) (ms0_10 t) fullShare (iblk m c 10 t) := by
  unfold Dat.leaves; rw [show cfg0.idle 10 (cfg0.grid.coords t) = false from rfl, show cfg0.loose 10 = false from rfl, after0_10]
  try rfl
theorem leaves0_11 (c : Dev nD) (t : Fin cfg0.N) : (dats m 0 c).leaves 11 t
    = owns (c : Thread nD τ) (ms0_11 t) fullShare (iblk m c 11 t) := by
  unfold Dat.leaves; rw [show cfg0.idle 11 (cfg0.grid.coords t) = false from rfl, show cfg0.loose 11 = false from rfl, after0_11]
  try rfl
theorem leaves0_12 (c : Dev nD) (t : Fin cfg0.N) : (dats m 0 c).leaves 12 t
    = iprop(∃ d, owns (c : Thread nD τ) (ms0_12 t) fullShare ((cfg0.win 12).fill (cfg0.grid.coords t) d (((cfg0.win 12).blk t).view.read (Elt Ideal) (G12 m c)))) := by
  unfold Dat.leaves; rw [show cfg0.idle 12 (cfg0.grid.coords t) = false from rfl, show cfg0.loose 12 = true from rfl, after0_12, Window.cut_fill]
  try rfl
theorem leaves0_13 (c : Dev nD) (t : Fin cfg0.N) : (dats m 0 c).leaves 13 t
    = iprop(∃ d, owns (c : Thread nD τ) (ms0_13 t) fullShare ((cfg0.win 13).fill (cfg0.grid.coords t) d (((cfg0.win 13).blk t).view.read (Elt Ideal) (G13 m c)))) := by
  unfold Dat.leaves; rw [show cfg0.idle 13 (cfg0.grid.coords t) = false from rfl, show cfg0.loose 13 = true from rfl, after0_13, Window.cut_fill]
  try rfl
theorem leaves0_14 (c : Dev nD) (t : Fin cfg0.N) : (dats m 0 c).leaves 14 t
    = iprop(∃ d, owns (c : Thread nD τ) (ms0_14 t) fullShare ((cfg0.win 14).fill (cfg0.grid.coords t) d (((cfg0.win 14).blk t).view.read (Elt Ideal) (G14 m c)))) := by
  unfold Dat.leaves; rw [show cfg0.idle 14 (cfg0.grid.coords t) = false from rfl, show cfg0.loose 14 = true from rfl, after0_14, Window.cut_fill]
  try rfl
theorem leaves0_15 (c : Dev nD) (t : Fin cfg0.N) : (dats m 0 c).leaves 15 t
    = iprop(∃ d, owns (c : Thread nD τ) (ms0_15 t) fullShare ((cfg0.win 15).fill (cfg0.grid.coords t) d (((cfg0.win 15).blk t).view.read (Elt Ideal) (G15 m c)))) := by
  unfold Dat.leaves; rw [show cfg0.idle 15 (cfg0.grid.coords t) = false from rfl, show cfg0.loose 15 = true from rfl, after0_15, Window.cut_fill]
  try rfl
theorem leaves0_16 (c : Dev nD) (t : Fin cfg0.N) : (dats m 0 c).leaves 16 t
    = iprop(∃ d, owns (c : Thread nD τ) (ms0_16 t) fullShare ((cfg0.win 16).fill (cfg0.grid.coords t) d (((cfg0.win 16).blk t).view.read (Elt Ideal) (G16 m c)))) := by
  unfold Dat.leaves; rw [show cfg0.idle 16 (cfg0.grid.coords t) = false from rfl, show cfg0.loose 16 = true from rfl, after0_16, Window.cut_fill]
  try rfl
theorem leaves0_17 (c : Dev nD) (t : Fin cfg0.N) (h0 : ¬cond0_0 (grid0.coords t)) (h1 : cond0_1 (grid0.coords t)) :
    (dats m 0 c).leaves 17 t = owns (c : Thread nD τ) (ms0_17 t) fullShare (G17 m c) := by
  unfold Dat.leaves; rw [liveAt0_17_C t h0 h1, show cfg0.loose 17 = false from rfl, after0_17]
  try rfl
theorem leaves0_18 (c : Dev nD) (t : Fin cfg0.N) (h0 : ¬cond0_0 (grid0.coords t)) (h1 : cond0_1 (grid0.coords t)) :
    (dats m 0 c).leaves 18 t = owns (c : Thread nD τ) (ms0_18 t) fullShare (G18 m c) := by
  unfold Dat.leaves; rw [liveAt0_18_C t h0 h1, show cfg0.loose 18 = false from rfl, after0_18]
  try rfl

/-- The block the body leaves in output 0 is one the proof data allow. -/
theorem own12 (c : Dev nD) (t : Fin cfg0.N) (d2 d6) :
    owns (c : Thread nD τ) (ms0_12 t) fullShare (w2k ((cfg0.win 2).fill (cfg0.grid.coords t) d2 (iblk m c 2 t)) ((cfg0.win 6).fill (cfg0.grid.coords t) d6 (iblk m c 6 t)) (iblk m c 7 t)) ⊢ ((dats m 0 c).leaves 12 t : sProp 𝕄) := by
  rw [leaves0_12, ← cut12 t (w2k ((cfg0.win 2).fill (cfg0.grid.coords t) d2 (iblk m c 2 t)) ((cfg0.win 6).fill (cfg0.grid.coords t) d6 (iblk m c 6 t)) (iblk m c 7 t)) (G12 m c) (ent12 m c t d2 d6)]
  iintro H
  iexists (w2k ((cfg0.win 2).fill (cfg0.grid.coords t) d2 (iblk m c 2 t)) ((cfg0.win 6).fill (cfg0.grid.coords t) d6 (iblk m c 6 t)) (iblk m c 7 t))
  rw [Window.fill_cut]
  iexact H

/-- The block the body leaves in output 1 is one the proof data allow. -/
theorem own13 (c : Dev nD) (t : Fin cfg0.N) (d2 d3 d4 d5 d6) :
    owns (c : Thread nD τ) (ms0_13 t) fullShare (dgc (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t) (iblk m c 10 t)) ⊢ ((dats m 0 c).leaves 13 t : sProp 𝕄) := by
  rw [leaves0_13, ← cut13 t (dgc (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t) (iblk m c 10 t)) (G13 m c) (ent13 m c t d2 d3 d4 d5 d6)]
  iintro H
  iexists (dgc (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t) (iblk m c 10 t))
  rw [Window.fill_cut]
  iexact H

/-- The block the body leaves in output 2 is one the proof data allow. -/
theorem own14 (c : Dev nD) (t : Fin cfg0.N) (d2 d3 d5 d6) :
    owns (c : Thread nD τ) (ms0_14 t) fullShare (duc (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t) (iblk m c 11 t)) ⊢ ((dats m 0 c).leaves 14 t : sProp 𝕄) := by
  rw [leaves0_14, ← cut14 t (duc (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t) (iblk m c 11 t)) (G14 m c) (ent14 m c t d2 d3 d5 d6)]
  iintro H
  iexists (duc (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t) (iblk m c 11 t))
  rw [Window.fill_cut]
  iexact H

/-- The block the body leaves in output 3 is one the proof data allow. -/
theorem own15 (c : Dev nD) (t : Fin cfg0.N) (d2 d3 d4 d5 d6) :
    owns (c : Thread nD τ) (ms0_15 t) fullShare (dwgk (iblk m c 0 t) (iblk m c 1 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 8 t) (iblk m c 9 t) (iblk m c 10 t)) ⊢ ((dats m 0 c).leaves 15 t : sProp 𝕄) := by
  rw [leaves0_15, ← cut15 t (dwgk (iblk m c 0 t) (iblk m c 1 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 8 t) (iblk m c 9 t) (iblk m c 10 t)) (G15 m c) (ent15 m c t d2 d3 d4 d5 d6)]
  iintro H
  iexists (dwgk (iblk m c 0 t) (iblk m c 1 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 8 t) (iblk m c 9 t) (iblk m c 10 t))
  rw [Window.fill_cut]
  iexact H

/-- The block the body leaves in output 4 is one the proof data allow. -/
theorem own16 (c : Dev nD) (t : Fin cfg0.N) (d2 d3 d5 d6) :
    owns (c : Thread nD τ) (ms0_16 t) fullShare (dwuk (iblk m c 0 t) (iblk m c 1 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 8 t) (iblk m c 9 t) (iblk m c 11 t)) ⊢ ((dats m 0 c).leaves 16 t : sProp 𝕄) := by
  rw [leaves0_16, ← cut16 t (dwuk (iblk m c 0 t) (iblk m c 1 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 8 t) (iblk m c 9 t) (iblk m c 11 t)) (G16 m c) (ent16 m c t d2 d3 d5 d6)]
  iintro H
  iexists (dwuk (iblk m c 0 t) (iblk m c 1 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 8 t) (iblk m c 9 t) (iblk m c 11 t))
  rw [Window.fill_cut]
  iexact H

theorem coord0 : ∀ t : Fin cfg0.N, (grid0.coords t 0).val = t.val := (by decide +kernel : ∀ t : Fin grid0.N, _)

/-- A point's step of the accumulator of dg_amax. -/
theorem step_dg (c : Dev nD) (t : Fin cfg0.N) (d2 d3 d4 d5 d6) (v : Vec Ideal S8x128 .f32) (hv : Inv (fDg m c) t.val v) :
    Inv (fDg m c) (t.val + 1) (gmk (grid0.coords t) (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t) v) :=
  inv_step (fDg m c) t.val (lt_of_lt_of_eq t.isLt N_0) (dgk (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t)) (ent_dg m c t d2 d3 d4 d5 d6) v _ hv
    (fun a l b => by
      have h := gmk_le (grid0.coords t) (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t) v a l b
      rw [coord0 t] at h
      exact h)

/-- The first point's. -/
theorem first_dg (c : Dev nD) (t : Fin cfg0.N) (d2 d3 d4 d5 d6) (h : t.val = 0) :
    Inv (fDg m c) (t.val + 1) (gmk (grid0.coords t) (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t) (k0_pay5 (F := Ideal))) :=
  step_dg m c t d2 d3 d4 d5 d6 _ (by rw [h]; exact inv_zero _ _ pay5_zero)

/-- What the last point writes to dg_amax. -/
theorem last_dg (c : Dev nD) (n : ℕ) (hn : n = 22) (v : Vec Ideal S8x128 .f32) (hv : Inv (fDg m c) n v) :
    (fun _ => k0_pay3 (F := Ideal) v) = G17 m c := by
  subst hn
  funext j
  unfold G17
  exact pay3_eq _ _ _ v hv j

/-- A point's step of the accumulator of du_amax. -/
theorem step_du (c : Dev nD) (t : Fin cfg0.N) (d2 d3 d5 d6) (v : Vec Ideal S8x128 .f32) (hv : Inv (fDu m c) t.val v) :
    Inv (fDu m c) (t.val + 1) (umk (grid0.coords t) (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t) v) :=
  inv_step (fDu m c) t.val (lt_of_lt_of_eq t.isLt N_0) (duk (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t)) (ent_du m c t d2 d3 d5 d6) v _ hv
    (fun a l b => by
      have h := umk_le (grid0.coords t) (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t) v a l b
      rw [coord0 t] at h
      exact h)

/-- The first point's. -/
theorem first_du (c : Dev nD) (t : Fin cfg0.N) (d2 d3 d5 d6) (h : t.val = 0) :
    Inv (fDu m c) (t.val + 1) (umk (grid0.coords t) (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t) (k0_pay6 (F := Ideal))) :=
  step_du m c t d2 d3 d5 d6 _ (by rw [h]; exact inv_zero _ _ pay6_zero)

/-- What the last point writes to du_amax. -/
theorem last_du (c : Dev nD) (n : ℕ) (hn : n = 22) (v : Vec Ideal S8x128 .f32) (hv : Inv (fDu m c) n v) :
    (fun _ => k0_pay4 (F := Ideal) v) = G18 m c := by
  subst hn
  funext j
  unfold G18
  exact pay4_eq _ _ _ v hv j

theorem Phi_first (c : Dev nD) (t : Fin cfg0.N) (h : t.val = 0) : (dats m 0 c).Φ t.castSucc
    = iprop(iprop((∃ d, owns (c : Thread nD τ) scM0_0 fullShare d) ∗ (∃ d, owns (c : Thread nD τ) scM0_1 fullShare d)) ∗ (∃ r, prngReg c r)) := by
  rw [← PhiA0_eq, show (dats m 0 c).Φ t.castSucc = Phi m c t.val from rfl, Phi, if_pos h]

theorem Phi_later (c : Dev nD) (t : Fin cfg0.N) (h : t.val ≠ 0) : (dats m 0 c).Φ t.castSucc = accs m c t.val := by
  rw [show (dats m 0 c).Φ t.castSucc = Phi m c t.val from rfl, Phi, if_neg h]

theorem Phi_next (c : Dev nD) (t : Fin cfg0.N) : (dats m 0 c).Φ t.succ = accs m c (t.val + 1) := by
  rw [show (dats m 0 c).Φ t.succ = Phi m c (t.val + 1) from rfl, Phi, if_neg (Nat.succ_ne_zero _)]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- What the body returns there. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t
    ∗ (dats m 0 c).leaves 13 t
    ∗ (dats m 0 c).leaves 14 t
    ∗ (dats m 0 c).leaves 15 t
    ∗ (dats m 0 c).leaves 16 t
    ∗ (dats m 0 c).leaves 17 t
    ∗ (dats m 0 c).leaves 18 t)

end Cert.BwdIdeal.Result

end
-- ==== Proof.BwdIdealPointA.lean ====
/- The body of `BwdIdeal` at the first point, against the proof data. -/
module

public import proofs.«01_k».proof.Proof.BwdIdealDats

@[expose] public section

set_option maxRecDepth 16384

noncomputable section

namespace Cert.BwdIdeal.Result

open Cert.BwdIdeal Cert.BwdIdeal.Gen Cert.BwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

set_option maxHeartbeats 24000000 in
/-- The body there. -/
theorem point_A (c : Dev nD) (t : Fin cfg0.N) (h0 : t.val % 22 = 0) (h1 : ¬t.val % 22 = 21) :
    bodyPre m c t ⊢ wp frame (wpE (defs₀ (F := Ideal)) Variants.none c none) Set.univ (bodyAt0 t) (fun _ => bodyPost m c t) := by
  have hN : t.val < 22 := lt_of_lt_of_eq t.isLt (show cfg0.N = 22 from N_0)
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [Dat.leaves_idle (dats m 0 c) 17 t (idleAt0_17_A t ((hcond0_0 t).mpr h0) (fun h => h1 ((hcond0_1 t).mp h))) (noFlush0_17_A t ((hcond0_0 t).mpr h0) (fun h => h1 ((hcond0_1 t).mp h)))]
  rw [Dat.leaves_idle (dats m 0 c) 18 t (idleAt0_18_A t ((hcond0_0 t).mpr h0) (fun h => h1 ((hcond0_1 t).mp h))) (noFlush0_18_A t ((hcond0_0 t).mpr h0) (fun h => h1 ((hcond0_1 t).mp h)))]
  have hz : t.val = 0 := by omega
  rw [Phi_first m c t hz, Phi_next]
  iintro ⟨⟨⟨⟨%sd0, HS0⟩, ⟨%sd1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) _ _ _ _ _ _ _ _ _ _ _ _).2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexact H17
  isplitl [H18]; · iexact H18
  isplitl [HS0]; · iexists _; iexact HS0
  isplitl [HS1]; · iexists _; iexact HS1
  iintro ⟨H0, H1, H2, H3, H4, H5, H6, H7, H8, H9, H10, H11, ⟨%e12, H12⟩, ⟨%e13, H13⟩, ⟨%e14, H14⟩, ⟨%e15, H15⟩, ⟨%e16, H16⟩, H17, H18, ⟨%es0, HS0⟩, ⟨%es1, HS1⟩⟩
  isplitl [HS0 HS1 Hg]
  · (try unfold accs); isplitl [HS0 HS1]
    · isplitl [HS0]
      · iexists (gmk (grid0.coords t) (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t) (k0_pay5 (F := Ideal))); isplitr
        · ipureintro; exact first_dg m c t d2 d3 d4 d5 d6 hz
        unfold owns; iexists _; isplitr
        swap; · iexact HS0
        ipureintro; refine Eq.trans (View.read_writes_eq_canon (Val := Elt Ideal) scM0_0.view es0 _ ?_) ?_
        · exact View.cover_of_tiledL _ S8x128.size (by sl_kernel_rfl)
        exact gm_A _ _ _ _ _ _ _ _ _ _ _ _ _ _ _ _ _ _ _ _ _ _ _ _ _ _ _ _ _ _ _ _ _ _ _ _ _ _ _ _ _ _ _ _ _ _ _ _ _ _ _ _ _ _ _ _ _ _
      iexists (umk (grid0.coords t) (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t) (k0_pay6 (F := Ideal))); isplitr
      · ipureintro; exact first_du m c t d2 d3 d5 d6 hz
      unfold owns; iexists _; isplitr
      swap; · iexact HS1
      ipureintro; refine Eq.trans (View.read_writes_eq_canon (Val := Elt Ideal) scM0_1.view es1 _ ?_) ?_
      · exact View.cover_of_tiledL _ S8x128.size (by sl_kernel_rfl)
      exact um_A _ _ _ _ _ _ _ _ _ _ _ _ _ _ _ _ _ _ _ _ _ _ _ _ _ _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  isplitl [H9]; · iexact H9
  isplitl [H10]; · iexact H10
  isplitl [H11]; · iexact H11
  isplitl [H12]
  · iapply own12 m c t d2 d6
    unfold owns; iexists _; isplitr
    swap; · iexact H12
    ipureintro; refine Eq.trans (View.read_writes_eq_canon (Val := Elt Ideal) (ms0_12 t).view e12 _ ?_) ?_
    · exact View.cover_of_tiledL _ S256x128.size (by sl_kernel_rfl)
    exact w2_A _ _ _ _ _ _ _ _ _ _ _ _ _ _ _ _ _ _ _ _ _ _ _ _ _ _ _ _ _ _ _ _ _ _ _ _ _ _ _ _ _ _ _ _ _ _ _ _ _ _ _ _ _ _ _ _ _ _
  isplitl [H13]
  · iapply own13 m c t d2 d3 d4 d5 d6
    unfold owns; iexists _; isplitr
    swap; · iexact H13
    ipureintro; refine Eq.trans (View.read_writes_eq_canon (Val := Elt Ideal) (ms0_13 t).view e13 _ ?_) ?_
    · exact View.cover_of_tiledL _ S1024x256.size (by sl_kernel_rfl)
    exact dg_A _ _ _ _ _ _ _ _ _ _ _ _ _ _ _ _ _ _ _ _ _ _ _ _ _ _ _ _ _ _ _ _ _ _ _ _ _ _ _ _ _ _ _ _ _ _ _ _ _ _ _ _ _ _ _ _ _ _
  isplitl [H14]
  · iapply own14 m c t d2 d3 d5 d6
    unfold owns; iexists _; isplitr
    swap; · iexact H14
    ipureintro; refine Eq.trans (View.read_writes_eq_canon (Val := Elt Ideal) (ms0_14 t).view e14 _ ?_) ?_
    · exact View.cover_of_tiledL _ S1024x256.size (by sl_kernel_rfl)
    exact du_A _ _ _ _ _ _ _ _ _ _ _ _ _ _ _ _ _ _ _ _ _ _ _ _ _ _ _ _ _ _ _ _ _ _ _ _ _ _ _ _ _ _ _ _ _ _ _ _ _ _ _ _ _ _ _ _ _ _
  isplitl [H15]
  · iapply own15 m c t d2 d3 d4 d5 d6
    unfold owns; iexists _; isplitr
    swap; · iexact H15
    ipureintro; refine Eq.trans (View.read_writes_eq_canon (Val := Elt Ideal) (ms0_15 t).view e15 _ ?_) ?_
    · exact View.cover_of_tiledL _ S4096x256.size (by sl_kernel_rfl)
    exact dwg_A _ _ _ _ _ _ _ _ _ _ _ _ _ _ _ _ _ _ _ _ _ _ _ _ _ _ _ _ _ _ _ _ _ _ _ _ _ _ _ _ _ _ _ _ _ _ _ _ _ _ _ _ _ _ _ _ _ _
  isplitl [H16]
  · iapply own16 m c t d2 d3 d5 d6
    unfold owns; iexists _; isplitr
    swap; · iexact H16
    ipureintro; refine Eq.trans (View.read_writes_eq_canon (Val := Elt Ideal) (ms0_16 t).view e16 _ ?_) ?_
    · exact View.cover_of_tiledL _ S4096x256.size (by sl_kernel_rfl)
    exact dwu_A _ _ _ _ _ _ _ _ _ _ _ _ _ _ _ _ _ _ _ _ _ _ _ _ _ _ _ _ _ _ _ _ _ _ _ _ _ _ _ _ _ _ _ _ _ _ _ _ _ _ _ _ _ _ _ _ _ _
  isplitl [H17]; · iexists _; iexact H17
  iexists _; iexact H18

end Cert.BwdIdeal.Result

end
-- ==== Proof.BwdIdealPointB.lean ====
/- The body of `BwdIdeal` at a point between, against the proof data. -/
module

public import proofs.«01_k».proof.Proof.BwdIdealDats

@[expose] public section

set_option maxRecDepth 16384

noncomputable section

namespace Cert.BwdIdeal.Result

open Cert.BwdIdeal Cert.BwdIdeal.Gen Cert.BwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

set_option maxHeartbeats 24000000 in
/-- The body there. -/
theorem point_B (c : Dev nD) (t : Fin cfg0.N) (h0 : ¬t.val % 22 = 0) (h1 : ¬t.val % 22 = 21) :
    bodyPre m c t ⊢ wp frame (wpE (defs₀ (F := Ideal)) Variants.none c none) Set.univ (bodyAt0 t) (fun _ => bodyPost m c t) := by
  have hN : t.val < 22 := lt_of_lt_of_eq t.isLt (show cfg0.N = 22 from N_0)
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [Dat.leaves_idle (dats m 0 c) 17 t (idleAt0_17_B t (fun h => h0 ((hcond0_0 t).mp h)) (fun h => h1 ((hcond0_1 t).mp h))) (noFlush0_17_B t (fun h => h0 ((hcond0_0 t).mp h)) (fun h => h1 ((hcond0_1 t).mp h)))]
  rw [Dat.leaves_idle (dats m 0 c) 18 t (idleAt0_18_B t (fun h => h0 ((hcond0_0 t).mp h)) (fun h => h1 ((hcond0_1 t).mp h))) (noFlush0_18_B t (fun h => h0 ((hcond0_0 t).mp h)) (fun h => h1 ((hcond0_1 t).mp h)))]
  rw [Phi_later m c t (by omega), Phi_next]; unfold accs
  iintro ⟨⟨⟨⟨%sd0, %hI0, HS0⟩, ⟨%sd1, %hI1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _ _ _ _ _).2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexact H17
  isplitl [H18]; · iexact H18
  isplitl [HS0]; · iexact HS0
  isplitl [HS1]; · iexact HS1
  iintro ⟨H0, H1, H2, H3, H4, H5, H6, H7, H8, H9, H10, H11, ⟨%e12, H12⟩, ⟨%e13, H13⟩, ⟨%e14, H14⟩, ⟨%e15, H15⟩, ⟨%e16, H16⟩, H17, H18, ⟨%es0, HS0⟩, ⟨%es1, HS1⟩⟩
  isplitl [HS0 HS1 Hg]
  · (try unfold accs); isplitl [HS0 HS1]
    · isplitl [HS0]
      · iexists (gmk (grid0.coords t) (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t) sd0); isplitr
        · ipureintro; exact step_dg m c t d2 d3 d4 d5 d6 sd0 hI0
        unfold owns; iexists _; isplitr
        swap; · iexact HS0
        ipureintro; refine Eq.trans (View.read_writes_eq_canon (Val := Elt Ideal) scM0_0.view es0 _ ?_) ?_
        · exact View.cover_of_tiledL _ S8x128.size (by sl_kernel_rfl)
        exact gm_B _ _ _ _ _ _ _ _ _ _ _ _ _ _ _ _ _ _ _ _ _ _ _ _ _ _ _ _ _ _ _ _ _ _ _ _ _ _ _ _ _ _ _ _ _ _ _ _ _ _ _ _ _ _ _ _ _ _ _ _
      iexists (umk (grid0.coords t) (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t) sd1); isplitr
      · ipureintro; exact step_du m c t d2 d3 d5 d6 sd1 hI1
      unfold owns; iexists _; isplitr
      swap; · iexact HS1
      ipureintro; refine Eq.trans (View.read_writes_eq_canon (Val := Elt Ideal) scM0_1.view es1 _ ?_) ?_
      · exact View.cover_of_tiledL _ S8x128.size (by sl_kernel_rfl)
      exact um_B _ _ _ _ _ _ _ _ _ _ _ _ _ _ _ _ _ _ _ _ _ _ _ _ _ _ _ _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  isplitl [H9]; · iexact H9
  isplitl [H10]; · iexact H10
  isplitl [H11]; · iexact H11
  isplitl [H12]
  · iapply own12 m c t d2 d6
    unfold owns; iexists _; isplitr
    swap; · iexact H12
    ipureintro; refine Eq.trans (View.read_writes_eq_canon (Val := Elt Ideal) (ms0_12 t).view e12 _ ?_) ?_
    · exact View.cover_of_tiledL _ S256x128.size (by sl_kernel_rfl)
    exact w2_B _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H13]
  · iapply own13 m c t d2 d3 d4 d5 d6
    unfold owns; iexists _; isplitr
    swap; · iexact H13
    ipureintro; refine Eq.trans (View.read_writes_eq_canon (Val := Elt Ideal) (ms0_13 t).view e13 _ ?_) ?_
    · exact View.cover_of_tiledL _ S1024x256.size (by sl_kernel_rfl)
    exact dg_B _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H14]
  · iapply own14 m c t d2 d3 d5 d6
    unfold owns; iexists _; isplitr
    swap; · iexact H14
    ipureintro; refine Eq.trans (View.read_writes_eq_canon (Val := Elt Ideal) (ms0_14 t).view e14 _ ?_) ?_
    · exact View.cover_of_tiledL _ S1024x256.size (by sl_kernel_rfl)
    exact du_B _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H15]
  · iapply own15 m c t d2 d3 d4 d5 d6
    unfold owns; iexists _; isplitr
    swap; · iexact H15
    ipureintro; refine Eq.trans (View.read_writes_eq_canon (Val := Elt Ideal) (ms0_15 t).view e15 _ ?_) ?_
    · exact View.cover_of_tiledL _ S4096x256.size (by sl_kernel_rfl)
    exact dwg_B _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H16]
  · iapply own16 m c t d2 d3 d5 d6
    unfold owns; iexists _; isplitr
    swap; · iexact H16
    ipureintro; refine Eq.trans (View.read_writes_eq_canon (Val := Elt Ideal) (ms0_16 t).view e16 _ ?_) ?_
    · exact View.cover_of_tiledL _ S4096x256.size (by sl_kernel_rfl)
    exact dwu_B _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H17]; · iexists _; iexact H17
  iexists _; iexact H18

end Cert.BwdIdeal.Result

end
-- ==== Proof.BwdIdealPointC.lean ====
/- The body of `BwdIdeal` at the last point, against the proof data. -/
module

public import proofs.«01_k».proof.Proof.BwdIdealDats

@[expose] public section

set_option maxRecDepth 16384

noncomputable section

namespace Cert.BwdIdeal.Result

open Cert.BwdIdeal Cert.BwdIdeal.Gen Cert.BwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

set_option maxHeartbeats 24000000 in
/-- The body there. -/
theorem point_C (c : Dev nD) (t : Fin cfg0.N) (h0 : ¬t.val % 22 = 0) (h1 : t.val % 22 = 21) :
    bodyPre m c t ⊢ wp frame (wpE (defs₀ (F := Ideal)) Variants.none c none) Set.univ (bodyAt0 t) (fun _ => bodyPost m c t) := by
  have hN : t.val < 22 := lt_of_lt_of_eq t.isLt (show cfg0.N = 22 from N_0)
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [leaves0_17 m c t (fun h => h0 ((hcond0_0 t).mp h)) ((hcond0_1 t).mpr h1), leaves0_18 m c t (fun h => h0 ((hcond0_0 t).mp h)) ((hcond0_1 t).mpr h1)]
  rw [Phi_later m c t (by omega), Phi_next]; unfold accs
  iintro ⟨⟨⟨⟨%sd0, %hI0, HS0⟩, ⟨%sd1, %hI1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _ _).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩, ⟨%es1, HS1⟩⟩
  isplitl [HS0 HS1 Hg]
  · (try unfold accs); isplitl [HS0 HS1]
    · isplitl [HS0]
      · iexists (gmk (grid0.coords t) (iblk m c 0 t) ((cfg0.win 2).fill (cfg0.grid.coords t) d2 (iblk m c 2 t)) ((cfg0.win 3).fill (cfg0.grid.coords t) d3 (iblk m c 3 t)) ((cfg0.win 4).fill (cfg0.grid.coords t) d4 (iblk m c 4 t)) ((cfg0.win 5).fill (cfg0.grid.coords t) d5 (iblk m c 5 t)) ((cfg0.win 6).fill (cfg0.grid.coords t) d6 (iblk m c 6 t)) (iblk m c 7 t) (iblk m c 9 t) sd0); isplitr
        · ipureintro; exact step_dg m c t d2 d3 d4 d5 d6 sd0 hI0
        unfold owns; iexists _; isplitr
        swap; · iexact HS0
        ipureintro; refine Eq.trans (View.read_writes_eq_canon (Val := Elt Ideal) scM0_0.view es0 _ ?_) ?_
        · exact View.cover_of_tiledL _ S8x128.size (by sl_kernel_rfl)
        exact gm_C _ _ _ _ _ _ _ _ _ _ _ _ _ _ _ _ _ _ _ _ _ _ _ _ _ _ _ _ _ _ _ _ _ _ _ _ _ _ _ _ _ _ _ _ _ _ _ _ _ _ _ _ _ _ _ _ _ _ _ _
      iexists (umk (grid0.coords t) (iblk m c 0 t) ((cfg0.win 2).fill (cfg0.grid.coords t) d2 (iblk m c 2 t)) ((cfg0.win 3).fill (cfg0.grid.coords t) d3 (iblk m c 3 t)) ((cfg0.win 5).fill (cfg0.grid.coords t) d5 (iblk m c 5 t)) ((cfg0.win 6).fill (cfg0.grid.coords t) d6 (iblk m c 6 t)) (iblk m c 7 t) (iblk m c 9 t) sd1); isplitr
      · ipureintro; exact step_du m c t d2 d3 d5 d6 sd1 hI1
      unfold owns; iexists _; isplitr
      swap; · iexact HS1
      ipureintro; refine Eq.trans (View.read_writes_eq_canon (Val := Elt Ideal) scM0_1.view es1 _ ?_) ?_
      · exact View.cover_of_tiledL _ S8x128.size (by sl_kernel_rfl)
      exact um_C _ _ _ _ _ _ _ _ _ _ _ _ _ _ _ _ _ _ _ _ _ _ _ _ _ _ _ _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  isplitl [H9]; · iexact H9
  isplitl [H10]; · iexact H10
  isplitl [H11]; · iexact H11
  isplitl [H12]
  · iapply own12 m c t d2 d6
    unfold owns; iexists _; isplitr
    swap; · iexact H12
    ipureintro; refine Eq.trans (View.read_writes_eq_canon (Val := Elt Ideal) (ms0_12 t).view e12 _ ?_) ?_
    · exact View.cover_of_tiledL _ S256x128.size (by sl_kernel_rfl)
    exact w2_C _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H13]
  · iapply own13 m c t d2 d3 d4 d5 d6
    unfold owns; iexists _; isplitr
    swap; · iexact H13
    ipureintro; refine Eq.trans (View.read_writes_eq_canon (Val := Elt Ideal) (ms0_13 t).view e13 _ ?_) ?_
    · exact View.cover_of_tiledL _ S1024x256.size (by sl_kernel_rfl)
    exact dg_C _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H14]
  · iapply own14 m c t d2 d3 d5 d6
    unfold owns; iexists _; isplitr
    swap; · iexact H14
    ipureintro; refine Eq.trans (View.read_writes_eq_canon (Val := Elt Ideal) (ms0_14 t).view e14 _ ?_) ?_
    · exact View.cover_of_tiledL _ S1024x256.size (by sl_kernel_rfl)
    exact du_C _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H15]
  · iapply own15 m c t d2 d3 d4 d5 d6
    unfold owns; iexists _; isplitr
    swap; · iexact H15
    ipureintro; refine Eq.trans (View.read_writes_eq_canon (Val := Elt Ideal) (ms0_15 t).view e15 _ ?_) ?_
    · exact View.cover_of_tiledL _ S4096x256.size (by sl_kernel_rfl)
    exact dwg_C _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H16]
  · iapply own16 m c t d2 d3 d5 d6
    unfold owns; iexists _; isplitr
    swap; · iexact H16
    ipureintro; refine Eq.trans (View.read_writes_eq_canon (Val := Elt Ideal) (ms0_16 t).view e16 _ ?_) ?_
    · exact View.cover_of_tiledL _ S4096x256.size (by sl_kernel_rfl)
    exact dwu_C _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [H17]
  · rw [← last_dg m c (t.val + 1) (by omega) _ (step_dg m c t d2 d3 d4 d5 d6 sd0 hI0)]
    unfold owns; iexists _; isplitr
    swap; · iexact H17
    ipureintro; refine Eq.trans (View.read_writes_eq_canon (Val := Elt Ideal) (ms0_17 t).view e17 _ ?_) ?_
    · exact View.cover_of_tiledL _ S1x1.size (by sl_kernel_rfl)
    exact gmax_C _ _ _ _ _ _ _ _ _ _ _ _ _ _ _ _ _ _ _ _ _ _ _ _ _ _ _ _ _ _ _ _ _ _ _ _ _ _ _ _ _ _ _ _ _ _ _ _ _ _ _ _ _ _ _ _ _ _ _ _
  rw [← last_du m c (t.val + 1) (by omega) _ (step_du m c t d2 d3 d5 d6 sd1 hI1)]
  unfold owns; iexists _; isplitr
  swap; · iexact H18
  ipureintro; refine Eq.trans (View.read_writes_eq_canon (Val := Elt Ideal) (ms0_18 t).view e18 _ ?_) ?_
  · exact View.cover_of_tiledL _ S1x1.size (by sl_kernel_rfl)
  exact umax_C _ _ _ _ _ _ _ _ _ _ _ _ _ _ _ _ _ _ _ _ _ _ _ _ _ _ _ _ _ _ _ _ _ _ _ _ _ _ _ _ _ _ _ _ _ _ _ _ _ _ _ _ _ _ _ _ _ _ _ _

end Cert.BwdIdeal.Result

end
-- ==== Proof.BwdIdealFinal.lean ====
/- The output arrays of the call `bwd` after all its points: the reference's. -/
module

public import proofs.«01_k».proof.Proof.BwdIdealDats
public import Idealize.ShloMosaic.Lib.Pipeline.ValueKit

@[expose] public section

set_option maxRecDepth 16384

noncomputable section

namespace Cert.BwdIdeal.Result

open Cert.BwdIdeal Cert.BwdIdeal.Gen Cert.BwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- An index of a one-entry array is the only one. -/
theorem idx11 (a b : S1x1.Idx) : a = b := funext fun k => by
  match k with
  | ⟨0, _⟩ => exact Subsingleton.elim (α := Fin 1) _ _
  | ⟨1, _⟩ => exact Subsingleton.elim (α := Fin 1) _ _

/-- The array of output 0 after the call. -/
theorem final12 (c : Dev nD) : (dats m 0 c).arrAt 12 cfg0.N = G12 m c := by
  obtain ⟨g, hg⟩ : ∃ g, g = G12 m c := ⟨_, rfl⟩
  have ha : ∀ t, (dats m 0 c).after 12 t = _ := fun t => after0_12 m c t
  rw [← hg] at ha ⊢
  refine (dats m 0 c).arrAt_eq_of_covers 12 _ (by decide +kernel) fun t _ y => ?_
  rw [ha]
  exact (cast_eq _ _).trans (Window.fill_xinj (cfg0.win 12) (cfg0.grid.coords t) _ (((cfg0.win 12).blk t).view.read (Elt Ideal) g) y)

/-- The array of output 1 after the call. -/
theorem final13 (c : Dev nD) : (dats m 0 c).arrAt 13 cfg0.N = G13 m c := by
  obtain ⟨g, hg⟩ : ∃ g, g = G13 m c := ⟨_, rfl⟩
  have ha : ∀ t, (dats m 0 c).after 13 t = _ := fun t => after0_13 m c t
  rw [← hg] at ha ⊢
  refine (dats m 0 c).arrAt_eq_of_covers 13 _ (by decide +kernel) fun t _ y => ?_
  rw [ha]
  exact (cast_eq _ _).trans (Window.fill_xinj (cfg0.win 13) (cfg0.grid.coords t) _ (((cfg0.win 13).blk t).view.read (Elt Ideal) g) y)

/-- The array of output 2 after the call. -/
theorem final14 (c : Dev nD) : (dats m 0 c).arrAt 14 cfg0.N = G14 m c := by
  obtain ⟨g, hg⟩ : ∃ g, g = G14 m c := ⟨_, rfl⟩
  have ha : ∀ t, (dats m 0 c).after 14 t = _ := fun t => after0_14 m c t
  rw [← hg] at ha ⊢
  refine (dats m 0 c).arrAt_eq_of_covers 14 _ (by decide +kernel) fun t _ y => ?_
  rw [ha]
  exact (cast_eq _ _).trans (Window.fill_xinj (cfg0.win 14) (cfg0.grid.coords t) _ (((cfg0.win 14).blk t).view.read (Elt Ideal) g) y)

/-- The array of output 3 after the call. -/
theorem final15 (c : Dev nD) : (dats m 0 c).arrAt 15 cfg0.N = G15 m c := by
  obtain ⟨g, hg⟩ : ∃ g, g = G15 m c := ⟨_, rfl⟩
  have ha : ∀ t, (dats m 0 c).after 15 t = _ := fun t => after0_15 m c t
  rw [← hg] at ha ⊢
  refine (dats m 0 c).arrAt_eq_of_covers 15 _ (by decide +kernel) fun t _ y => ?_
  rw [ha]
  exact (cast_eq _ _).trans (Window.fill_xinj (cfg0.win 15) (cfg0.grid.coords t) _ (((cfg0.win 15).blk t).view.read (Elt Ideal) g) y)

/-- The array of output 4 after the call. -/
theorem final16 (c : Dev nD) : (dats m 0 c).arrAt 16 cfg0.N = G16 m c := by
  obtain ⟨g, hg⟩ : ∃ g, g = G16 m c := ⟨_, rfl⟩
  have ha : ∀ t, (dats m 0 c).after 16 t = _ := fun t => after0_16 m c t
  rw [← hg] at ha ⊢
  refine (dats m 0 c).arrAt_eq_of_covers 16 _ (by decide +kernel) fun t _ y => ?_
  rw [ha]
  exact (cast_eq _ _).trans (Window.fill_xinj (cfg0.win 16) (cfg0.grid.coords t) _ (((cfg0.win 16).blk t).view.read (Elt Ideal) g) y)

/-- The array of output 5 after the call. -/
theorem final17 (c : Dev nD) : (dats m 0 c).arrAt 17 cfg0.N = G17 m c := by
  obtain ⟨g, hg⟩ : ∃ g, g = G17 m c := ⟨_, rfl⟩
  have ha : ∀ t, (dats m 0 c).after 17 t = _ := fun t => after0_17 m c t
  rw [← hg] at ha ⊢
  refine (dats m 0 c).arrAt_eq_of_covers 17 _ (by decide +kernel) fun t _ y => ?_
  rw [ha]
  exact (cast_eq _ _).trans (congrArg g (idx11 _ _))

/-- The array of output 6 after the call. -/
theorem final18 (c : Dev nD) : (dats m 0 c).arrAt 18 cfg0.N = G18 m c := by
  obtain ⟨g, hg⟩ : ∃ g, g = G18 m c := ⟨_, rfl⟩
  have ha : ∀ t, (dats m 0 c).after 18 t = _ := fun t => after0_18 m c t
  rw [← hg] at ha ⊢
  refine (dats m 0 c).arrAt_eq_of_covers 18 _ (by decide +kernel) fun t _ y => ?_
  rw [ha]
  exact (cast_eq _ _).trans (congrArg g (idx11 _ _))

end Cert.BwdIdeal.Result

end
-- ==== Proof.BwdResult.lean ====
/- What the call `bwd` leaves over the extended reals: the reference's arrays; and its frame. -/
module

public import proofs.«01_k».proof.Proof.BwdIdealPointA
public import proofs.«01_k».proof.Proof.BwdIdealPointB
public import proofs.«01_k».proof.Proof.BwdIdealPointC
public import proofs.«01_k».proof.Proof.BwdIdealFinal
public import Idealize.ShloMosaic.Lib.Claim
public import Idealize.ShloMosaic.Lib.Pipeline.ValueKit

@[expose] public section

set_option maxRecDepth 16384

noncomputable section

namespace Cert.BwdIdeal.Result

open Cert.BwdIdeal Cert.BwdIdeal.Gen Cert.BwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 22 = 0
  · exact point_A m c t h0 (by omega)
  · by_cases h1 : t.val % 22 = 21
    · exact point_C m c t h0 h1
    · exact point_B m c t h0 h1

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation. -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ ((dats m 0 c).Φ 0 : sProp 𝕄) := by
  rw [show (dats m 0 c).Φ 0 = Phi m c 0 from rfl, Phi, if_pos rfl]
  try exact .rfl

theorem hout (c : Dev nD) : ((dats m 0 c).Φ (Fin.last cfg0.N) : sProp 𝕄) ⊢ Pipeline.ΦA spec0 c := by
  rw [show (dats m 0 c).Φ (Fin.last cfg0.N) = Phi m c cfg0.N from rfl, Phi, if_neg (by rw [show cfg0.N = 22 from N_0]; omega), PhiA0_eq]
  unfold accs
  iintro ⟨⟨⟨%v0, %h0, HS0⟩, ⟨%v1, %h1, HS1⟩⟩, Hg⟩
  isplitl [HS0 HS1]
  · isplitl [HS0]
    · iexists v0; iexact HS0
    iexists v1; iexact HS1
  iexact Hg

set_option backward.isDefEq.respectTransparency.types false in
/-- The whole run: every array named, every counter at zero. -/
theorem run_main : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame of the program: the argument arrays end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The run with every output array named, the arguments unchanged. -/
theorem run_blocks : θ_run defs (onTc (τ := τ) (main (F := Ideal))) ⟨m, fun _ => 0, ρ⟩ fun r => ∀ c : Dev nD,
      r.2.mem ((c : Thread nD τ).loc main_v3_0) = (dats m 0 c).arrAt 12 cfg0.N
      ∧ r.2.mem ((c : Thread nD τ).loc main_v3_1) = (dats m 0 c).arrAt 13 cfg0.N
      ∧ r.2.mem ((c : Thread nD τ).loc main_v3_2) = (dats m 0 c).arrAt 14 cfg0.N
      ∧ r.2.mem ((c : Thread nD τ).loc main_v3_3) = (dats m 0 c).arrAt 15 cfg0.N
      ∧ r.2.mem ((c : Thread nD τ).loc main_v3_4) = (dats m 0 c).arrAt 16 cfg0.N
      ∧ r.2.mem ((c : Thread nD τ).loc main_v3_5) = (dats m 0 c).arrAt 17 cfg0.N
      ∧ r.2.mem ((c : Thread nD τ).loc main_v3_6) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨
      (h.1 c).1 12,
      (h.1 c).1 13,
      (h.1 c).1 14,
      (h.1 c).1 15,
      (h.1 c).1 16,
      (h.1 c).1 17,
      (h.1 c).1 18,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 5).trans (((dats m 0 c).arrAt_in 5 rfl _).trans ((A_eq m c 5).trans (V_main_arg5 m c))),
      ((h.1 c).1 7).trans (((dats m 0 c).arrAt_in 7 rfl _).trans ((A_eq m c 7).trans (V_main_arg6 m c))),
      ((h.1 c).1 8).trans (((dats m 0 c).arrAt_in 8 rfl _).trans ((A_eq m c 8).trans (V_main_arg7 m c))),
      ((h.1 c).1 9).trans (((dats m 0 c).arrAt_in 9 rfl _).trans ((A_eq m c 9).trans (V_main_arg8 m c))),
      ((h.1 c).1 10).trans (((dats m 0 c).arrAt_in 10 rfl _).trans ((A_eq m c 10).trans (V_main_arg9 m c))),
      ((h.1 c).1 11).trans (((dats m 0 c).arrAt_in 11 rfl _).trans ((A_eq m c 11).trans (V_main_arg10 m c)))⟩) (run_main m ρ)

end Cert.BwdIdeal.Result

end
-- ==== Proof.lean ====
/- The proof of the claims. -/
module

public import proofs.«01_k».proof.Defs
public import proofs.«01_k».proof.Proof.Gen.Out.Frame
public import proofs.«01_k».proof.Proof.Gen.OutIdeal.Value
public import proofs.«01_k».proof.Proof.Gen.OutReferenceIdeal.Value
public import proofs.«01_k».proof.Proof.OutValue
public import proofs.«01_k».proof.Proof.Gen.Dxn.Frame
public import proofs.«01_k».proof.Proof.Gen.DxnIdeal.Value
public import proofs.«01_k».proof.Proof.Gen.DxnReferenceIdeal.Value
public import proofs.«01_k».proof.Proof.DxnDot
public import proofs.«01_k».proof.Proof.Gen.Rows.Frame
public import proofs.«01_k».proof.Proof.Gen.RowsIdeal.Value
public import proofs.«01_k».proof.Proof.Gen.RowsReferenceIdeal.Value
public import proofs.«01_k».proof.Proof.RowsAmax
public import proofs.«01_k».proof.Proof.BwdFrame
public import proofs.«01_k».proof.Proof.BwdIdealRef
public import proofs.«01_k».proof.Proof.Gen.BwdReferenceIdeal.Value
public import proofs.«01_k».proof.Proof.BwdResult
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 2000000 in
/-- The call `out` leaves over the extended reals the arrays its reference leaves. -/
theorem algebraic_out : Cert.algebraic_OutIdeal_OutReferenceIdeal := by
  intro m g m' g' _ hag
  refine ⟨fun c => (Cert.OutIdeal.Gen.dats m 0 c).arrAt 12 Cert.OutIdeal.cfg0.N, fun c => (Cert.OutIdeal.Gen.dats m 0 c).arrAt 13 Cert.OutIdeal.cfg0.N, fun c => (Cert.OutIdeal.Gen.dats m 0 c).arrAt 14 Cert.OutIdeal.cfg0.N,
    Cert.OutIdeal.Value.run_blocks m g, (θ_run _ _ _).mono (fun r h c => ?_) (Cert.OutReferenceIdeal.Value.run m' g')⟩
  obtain ⟨h0, h1, h2, hr⟩ := h c
  obtain ⟨e0, e1, e2, e3, e4, e5, e6, e7, e8, e9, e10⟩ := hag c
  simp only [e0, e1, e2, e3, e4, e5, e6, e7, e8, e9, e10] at h0 h1 h2
  exact ⟨h0.trans (Cert.OutIdeal.Result.final12 m c).symm, h1.trans (Cert.OutIdeal.Result.final13 m c).symm, h2.trans (Cert.OutIdeal.Result.final14 m c).symm, hr⟩

set_option maxHeartbeats 2000000 in
/-- The call `dxn` leaves over the extended reals the arrays its reference leaves. -/
theorem algebraic_dxn : Cert.algebraic_DxnIdeal_DxnReferenceIdeal := by
  intro m g m' g' _ hag
  refine ⟨fun c => (Cert.DxnIdeal.Gen.dats m 0 c).arrAt 11 Cert.DxnIdeal.cfg0.N, fun c => (Cert.DxnIdeal.Gen.dats m 0 c).arrAt 12 Cert.DxnIdeal.cfg0.N, fun c => (Cert.DxnIdeal.Gen.dats m 0 c).arrAt 13 Cert.DxnIdeal.cfg0.N,
    Cert.DxnIdeal.Value.run_blocks m g, (θ_run _ _ _).mono (fun r h c => ?_) (Cert.DxnReferenceIdeal.Value.run m' g')⟩
  obtain ⟨h0, h1, h2, hr⟩ := h c
  obtain ⟨e0, e1, e2, e3, e4, e5, e6, e7, e8, e9, e10⟩ := hag c
  simp only [e0, e1, e2, e3, e4, e5, e6, e7, e8, e9, e10] at h0 h1 h2
  exact ⟨h0.trans (Cert.DxnIdeal.Result.final11 m c).symm, h1.trans (Cert.DxnIdeal.Result.final12 m c).symm, h2.trans (Cert.DxnIdeal.Result.final13 m c).symm, hr⟩

set_option maxHeartbeats 2000000 in
/-- The call `rows` leaves over the extended reals the arrays its reference leaves. -/
theorem algebraic_rows : Cert.algebraic_RowsIdeal_RowsReferenceIdeal := by
  intro m g m' g' _ hag
  refine ⟨fun c => (Cert.RowsIdeal.Gen.dats m 0 c).arrAt 5 Cert.RowsIdeal.cfg0.N, fun c => (Cert.RowsIdeal.Gen.dats m 0 c).arrAt 6 Cert.RowsIdeal.cfg0.N, fun c => (Cert.RowsIdeal.Gen.dats m 0 c).arrAt 7 Cert.RowsIdeal.cfg0.N, fun c => (Cert.RowsIdeal.Gen.dats m 0 c).arrAt 8 Cert.RowsIdeal.cfg0.N, fun c => (Cert.RowsIdeal.Gen.dats m 0 c).arrAt 9 Cert.RowsIdeal.cfg0.N, fun c => (Cert.RowsIdeal.Gen.dats m 0 c).arrAt 10 Cert.RowsIdeal.cfg0.N,
    Cert.RowsIdeal.Value.run_blocks m g, (θ_run _ _ _).mono (fun r h c => ?_) (Cert.RowsReferenceIdeal.Value.run m' g')⟩
  obtain ⟨h0, h1, h2, h3, h4, h5, hr⟩ := h c
  obtain ⟨e0, e1, e2, e3, e4⟩ := hag c
  simp only [e0, e1, e2, e3, e4] at h0 h1 h2 h3 h4 h5
  exact ⟨h0.trans (Cert.RowsIdeal.Result.final5 m c).symm, h1.trans (Cert.RowsIdeal.Result.final6 m c).symm, h2.trans (Cert.RowsIdeal.Result.final7 m c).symm, h3.trans (Cert.RowsIdeal.Result.final8 m c).symm, h4.trans (Cert.RowsIdeal.Result.final9 m c).symm, h5.trans (Cert.RowsIdeal.Result.final10 m c).symm, hr⟩

set_option maxHeartbeats 2000000 in
/-- The call `bwd` leaves over the extended reals the arrays its reference leaves. -/
theorem algebraic_bwd : Cert.algebraic_BwdIdeal_BwdReferenceIdeal := by
  intro m g m' g' _ hag
  refine ⟨fun c => (Cert.BwdIdeal.Result.dats m 0 c).arrAt 12 Cert.BwdIdeal.cfg0.N, fun c => (Cert.BwdIdeal.Result.dats m 0 c).arrAt 13 Cert.BwdIdeal.cfg0.N, fun c => (Cert.BwdIdeal.Result.dats m 0 c).arrAt 14 Cert.BwdIdeal.cfg0.N, fun c => (Cert.BwdIdeal.Result.dats m 0 c).arrAt 15 Cert.BwdIdeal.cfg0.N, fun c => (Cert.BwdIdeal.Result.dats m 0 c).arrAt 16 Cert.BwdIdeal.cfg0.N, fun c => (Cert.BwdIdeal.Result.dats m 0 c).arrAt 17 Cert.BwdIdeal.cfg0.N, fun c => (Cert.BwdIdeal.Result.dats m 0 c).arrAt 18 Cert.BwdIdeal.cfg0.N,
    Cert.BwdIdeal.Result.run_blocks m g, (θ_run _ _ _).mono (fun r h c => ?_) (Cert.BwdReferenceIdeal.Value.run m' g')⟩
  obtain ⟨h0, h1, h2, h3, h4, h5, h6, hr⟩ := h c
  obtain ⟨e0, e1, e2, e3, e4, e5, e6, e7, e8, e9, e10⟩ := hag c
  simp only [e0, e1, e2, e3, e4, e5, e6, e7, e8, e9, e10] at h0 h1 h2 h3 h4 h5 h6
  exact ⟨h0.trans ((Cert.BwdIdeal.Result.ref12 m c).symm.trans (Cert.BwdIdeal.Result.final12 m c).symm), h1.trans ((Cert.BwdIdeal.Result.ref13 m c).symm.trans (Cert.BwdIdeal.Result.final13 m c).symm), h2.trans ((Cert.BwdIdeal.Result.ref14 m c).symm.trans (Cert.BwdIdeal.Result.final14 m c).symm), h3.trans ((Cert.BwdIdeal.Result.ref15 m c).symm.trans (Cert.BwdIdeal.Result.final15 m c).symm), h4.trans ((Cert.BwdIdeal.Result.ref16 m c).symm.trans (Cert.BwdIdeal.Result.final16 m c).symm), h5.trans ((Cert.BwdIdeal.Result.ref17 m c).symm.trans (Cert.BwdIdeal.Result.final17 m c).symm), h6.trans ((Cert.BwdIdeal.Result.ref18 m c).symm.trans (Cert.BwdIdeal.Result.final18 m c).symm), hr⟩

theorem claim : Cert.Claim :=
  ⟨Cert.Out.Gen.facts, Cert.OutIdeal.Gen.facts, Cert.OutReferenceIdeal.Gen.facts, Cert.Dxn.Gen.facts, Cert.DxnIdeal.Gen.facts, Cert.DxnReferenceIdeal.Gen.facts, Cert.Rows.Gen.facts, Cert.RowsIdeal.Gen.facts, Cert.RowsReferenceIdeal.Gen.facts, Cert.Bwd.Gen.facts, Cert.BwdIdeal.Gen.facts, Cert.BwdReferenceIdeal.Gen.facts,
    fun m ρ _ => Cert.Out.Gen.frame m ρ, fun m ρ _ => Cert.OutIdeal.Gen.frame m ρ, fun m ρ _ => Cert.OutReferenceIdeal.Gen.frame m ρ,
    fun m ρ _ => Cert.Dxn.Gen.frame m ρ, fun m ρ _ => Cert.DxnIdeal.Gen.frame m ρ, fun m ρ _ => Cert.DxnReferenceIdeal.Gen.frame m ρ,
    fun m ρ _ => Cert.Rows.Gen.frame m ρ, fun m ρ _ => Cert.RowsIdeal.Gen.frame m ρ, fun m ρ _ => Cert.RowsReferenceIdeal.Gen.frame m ρ,
    fun m ρ _ => Cert.Bwd.Body.frame m ρ, fun m ρ _ => Cert.BwdIdeal.Result.frame m ρ, fun m ρ _ => Cert.BwdReferenceIdeal.Gen.frame m ρ,
    trivial, algebraic_out, trivial, algebraic_dxn, trivial, algebraic_rows, trivial, algebraic_bwd⟩

end Cert.Proof

end
